-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 128]⟩ : Shape).Idx, (Layout.block ⟨2, ![4096, 128]⟩ ⟨2, ![4096, 2048]⟩ 1 16 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 128]⟩ : Shape).Idx → _) i = 1#1 → r.2.mem ((c.tc : Thread Cert.KernelIdeal.nD Cert.KernelIdeal.τ).loc Cert.KernelIdeal.main_v1) i = (Layout.block ⟨2, ![4096, 128]⟩ ⟨2, ![4096, 2048]⟩ 1 16 c v0 : (⟨2, ![4096, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S256x4096 : Shape := ⟨2, ![256, 4096]⟩
abbrev S4096x128 : Shape := ⟨2, ![4096, 128]⟩
abbrev S16x256x4096 : Shape := ⟨3, ![16, 256, 4096]⟩
abbrev S16 : Shape := ⟨1, ![16]⟩
abbrev S_ : Shape := ⟨0, ![]⟩
abbrev S128x4096 : Shape := ⟨2, ![128, 4096]⟩
abbrev S1x128x4096 : Shape := ⟨3, ![1, 128, 4096]⟩
abbrev S1 : Shape := ⟨1, ![1]⟩
abbrev S1x256x4096 : Shape := ⟨3, ![1, 256, 4096]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S16x256x4096, .bf16⟩
  | .local _ .vmem, ⟨4, _⟩ => ⟨S4096x128, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_84 : BitVec 32 := 1#32
  let v99 : BitVec 32 := Scalar.muli v65 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_87 : BitVec 32 := 1#32
  let v101 : BitVec 32 := Scalar.muli v97 c1_i32_87
  let v102 : BitVec 32 := Scalar.addi c0_i32_88 v101
  v102.toNat
def k0_dev3 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_98 : BitVec 32 := 1#32
  let v108 : BitVec 32 := Scalar.muli v97 c1_i32_98
  let v109 : BitVec 32 := Scalar.addi c0_i32_99 v108
  v109.toNat
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_108 : BitVec 32 := 1#32
  let v118 : BitVec 32 := Scalar.muli v65 c1_i32_108
  let v119 : BitVec 32 := Scalar.addi c0_i32_109 v118
  v119.toNat
def k0_dev5 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_122 : BitVec 32 := 1#32
  let v133 : BitVec 32 := Scalar.muli v97 c1_i32_122
  let v134 : BitVec 32 := Scalar.addi c0_i32_123 v133
  v134.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_131 : BitVec 32 := 1#32
  let v143 : BitVec 32 := Scalar.muli v65 c1_i32_131
  let v144 : BitVec 32 := Scalar.addi c0_i32_132 v143
  v144.toNat
def k0_off1 (d0 : Dev nD) (c0_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_141 : BitVec 32 := 16#32
  let v158 : BitVec 32 := Scalar.addi v32 c16_i32_141
  let v159 : BitVec 32 := Scalar.subi v158 c0_i32_142
  let c16_i32_143 : BitVec 32 := 16#32
  let v160 : BitVec 32 := Scalar.remsi v159 c16_i32_143
  let c15_i32_173 : BitVec 32 := 15#32
  let v189 : BitVec 1 := Scalar.cmpi .eq v160 c15_i32_173
  let c4_i32_174 : BitVec 32 := 4#32
  let c14_i32_171 : BitVec 32 := 14#32
  let v187 : BitVec 1 := Scalar.cmpi .eq v160 c14_i32_171
  let c8_i32_172 : BitVec 32 := 8#32
  let c13_i32_169 : BitVec 32 := 13#32
  let v185 : BitVec 1 := Scalar.cmpi .eq v160 c13_i32_169
  let c12_i32_170 : BitVec 32 := 12#32
  let c12_i32_167 : BitVec 32 := 12#32
  let v183 : BitVec 1 := Scalar.cmpi .eq v160 c12_i32_167
  let c15_i32_168 : BitVec 32 := 15#32
  let c11_i32_165 : BitVec 32 := 11#32
  let v181 : BitVec 1 := Scalar.cmpi .eq v160 c11_i32_165
  let c11_i32_166 : BitVec 32 := 11#32
  let c10_i32_163 : BitVec 32 := 10#32
  let v179 : BitVec 1 := Scalar.cmpi .eq v160 c10_i32_163
  let c7_i32_164 : BitVec 32 := 7#32
  let c9_i32_161 : BitVec 32 := 9#32
  let v177 : BitVec 1 := Scalar.cmpi .eq v160 c9_i32_161
  let c3_i32_162 : BitVec 32 := 3#32
  let c8_i32_159 : BitVec 32 := 8#32
  let v175 : BitVec 1 := Scalar.cmpi .eq v160 c8_i32_159
  let c2_i32_160 : BitVec 32 := 2#32
  let c7_i32_157 : BitVec 32 := 7#32
  let v173 : BitVec 1 := Scalar.cmpi .eq v160 c7_i32_157
  let c6_i32_158 : BitVec 32 := 6#32
  let c6_i32_155 : BitVec 32 := 6#32
  let v171 : BitVec 1 := Scalar.cmpi .eq v160 c6_i32_155
  let c10_i32_156 : BitVec 32 := 10#32
  let c5_i32_153 : BitVec 32 := 5#32
  let v169 : BitVec 1 := Scalar.cmpi .eq v160 c5_i32_153
  let c14_i32_154 : BitVec 32 := 14#32
  let c4_i32_151 : BitVec 32 := 4#32
  let v167 : BitVec 1 := Scalar.cmpi .eq v160 c4_i32_151
  let c13_i32_152 : BitVec 32 := 13#32
  let c3_i32_149 : BitVec 32 := 3#32
  let v165 : BitVec 1 := Scalar.cmpi .eq v160 c3_i32_149
  let c9_i32_150 : BitVec 32 := 9#32
  let c2_i32_147 : BitVec 32 := 2#32
  let v163 : BitVec 1 := Scalar.cmpi .eq v160 c2_i32_147
  let c5_i32_148 : BitVec 32 := 5#32
  let c1_i32_144 : BitVec 32 := 1#32
  let v161 : BitVec 1 := Scalar.cmpi .eq v160 c1_i32_144
  let c1_i32_146 : BitVec 32 := 1#32
  let c0_i32_145 : BitVec 32 := 0#32
  let v162 : BitVec 32 := Scalar.select v161 c1_i32_146 c0_i32_145
  let v164 : BitVec 32 := Scalar.select v163 c5_i32_148 v162
  let v166 : BitVec 32 := Scalar.select v165 c9_i32_150 v164
  let v168 : BitVec 32 := Scalar.select v167 c13_i32_152 v166
  let v170 : BitVec 32 := Scalar.select v169 c14_i32_154 v168
  let v172 : BitVec 32 := Scalar.select v171 c10_i32_156 v170
  let v174 : BitVec 32 := Scalar.select v173 c6_i32_158 v172
  let v176 : BitVec 32 := Scalar.select v175 c2_i32_160 v174
  let v178 : BitVec 32 := Scalar.select v177 c3_i32_162 v176
  let v180 : BitVec 32 := Scalar.select v179 c7_i32_164 v178
  let v182 : BitVec 32 := Scalar.select v181 c11_i32_166 v180
  let v184 : BitVec 32 := Scalar.select v183 c15_i32_168 v182
  let v186 : BitVec 32 := Scalar.select v185 c12_i32_170 v184
  let v188 : BitVec 32 := Scalar.select v187 c8_i32_172 v186
  let v190 : BitVec 32 := Scalar.select v189 c4_i32_174 v188
  let c256_i32 : BitVec 32 := 256#32
  let v197 : BitVec 32 := Scalar.muli v190 c256_i32
  let v198 : Index := Scalar.indexCast v197
  let c0_180 : Index := 0#32
  ![v198.toNat, 0]
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_195 : BitVec 32 := 1#32
  let v208 : BitVec 32 := Scalar.muli v97 c1_i32_195
  let v209 : BitVec 32 := Scalar.addi c0_i32_196 v208
  v209.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_215 : BitVec 32 := 1#32
  let v226 : BitVec 32 := Scalar.muli v65 c1_i32_215
  let v227 : BitVec 32 := Scalar.addi c0_i32_216 v226
  v227.toNat
def k0_dev9 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_235 : BitVec 32 := 1#32
  let v244 : BitVec 32 := Scalar.muli v97 c1_i32_235
  let v245 : BitVec 32 := Scalar.addi c0_i32_236 v244
  v245.toNat
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_255 : BitVec 32 := 1#32
  let v262 : BitVec 32 := Scalar.muli v65 c1_i32_255
  let v263 : BitVec 32 := Scalar.addi c0_i32_256 v262
  v263.toNat
def k0_dev11 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_357 : BitVec 32 := 1#32
  let v364 : BitVec 32 := Scalar.muli v97 c1_i32_357
  let v365 : BitVec 32 := Scalar.addi c0_i32_358 v364
  v365.toNat
def k0_dev12 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_377 : BitVec 32 := 1#32
  let v382 : BitVec 32 := Scalar.muli v65 c1_i32_377
  let v383 : BitVec 32 := Scalar.addi c0_i32_378 v382
  v383.toNat
def k0_dev13 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_397 : BitVec 32 := 1#32
  let v400 : BitVec 32 := Scalar.muli v97 c1_i32_397
  let v401 : BitVec 32 := Scalar.addi c0_i32_398 v400
  v401.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_417 : BitVec 32 := 1#32
  let v418 : BitVec 32 := Scalar.muli v65 c1_i32_417
  let v419 : BitVec 32 := Scalar.addi c0_i32_418 v418
  v419.toNat
def k0_dev15 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_519 : BitVec 32 := 1#32
  let v520 : BitVec 32 := Scalar.muli v97 c1_i32_519
  let v521 : BitVec 32 := Scalar.addi c0_i32_520 v520
  v521.toNat
def k0_dev16 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_539 : BitVec 32 := 1#32
  let v538 : BitVec 32 := Scalar.muli v65 c1_i32_539
  let v539 : BitVec 32 := Scalar.addi c0_i32_540 v538
  v539.toNat
def k0_dev17 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_559 : BitVec 32 := 1#32
  let v556 : BitVec 32 := Scalar.muli v97 c1_i32_559
  let v557 : BitVec 32 := Scalar.addi c0_i32_560 v556
  v557.toNat
def k0_dev18 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_579 : BitVec 32 := 1#32
  let v574 : BitVec 32 := Scalar.muli v65 c1_i32_579
  let v575 : BitVec 32 := Scalar.addi c0_i32_580 v574
  v575.toNat
def k0_dev19 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_681 : BitVec 32 := 1#32
  let v676 : BitVec 32 := Scalar.muli v97 c1_i32_681
  let v677 : BitVec 32 := Scalar.addi c0_i32_682 v676
  v677.toNat
def k0_dev20 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_701 : BitVec 32 := 1#32
  let v694 : BitVec 32 := Scalar.muli v65 c1_i32_701
  let v695 : BitVec 32 := Scalar.addi c0_i32_702 v694
  v695.toNat
def k0_dev21 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_721 : BitVec 32 := 1#32
  let v712 : BitVec 32 := Scalar.muli v97 c1_i32_721
  let v713 : BitVec 32 := Scalar.addi c0_i32_722 v712
  v713.toNat
def k0_dev22 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_741 : BitVec 32 := 1#32
  let v730 : BitVec 32 := Scalar.muli v65 c1_i32_741
  let v731 : BitVec 32 := Scalar.addi c0_i32_742 v730
  v731.toNat
def k0_dev23 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_843 : BitVec 32 := 1#32
  let v832 : BitVec 32 := Scalar.muli v97 c1_i32_843
  let v833 : BitVec 32 := Scalar.addi c0_i32_844 v832
  v833.toNat
def k0_dev24 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_863 : BitVec 32 := 1#32
  let v850 : BitVec 32 := Scalar.muli v65 c1_i32_863
  let v851 : BitVec 32 := Scalar.addi c0_i32_864 v850
  v851.toNat
def k0_dev25 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_883 : BitVec 32 := 1#32
  let v868 : BitVec 32 := Scalar.muli v97 c1_i32_883
  let v869 : BitVec 32 := Scalar.addi c0_i32_884 v868
  v869.toNat
def k0_dev26 (d0 : Dev nD) : Nat :=
  let c0_i32_904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_903 : BitVec 32 := 1#32
  let v886 : BitVec 32 := Scalar.muli v65 c1_i32_903
  let v887 : BitVec 32 := Scalar.addi c0_i32_904 v886
  v887.toNat
def k0_dev27 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1005 : BitVec 32 := 1#32
  let v988 : BitVec 32 := Scalar.muli v97 c1_i32_1005
  let v989 : BitVec 32 := Scalar.addi c0_i32_1006 v988
  v989.toNat
def k0_dev28 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_1025 : BitVec 32 := 1#32
  let v1006 : BitVec 32 := Scalar.muli v65 c1_i32_1025
  let v1007 : BitVec 32 := Scalar.addi c0_i32_1026 v1006
  v1007.toNat
def k0_dev29 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1045 : BitVec 32 := 1#32
  let v1024 : BitVec 32 := Scalar.muli v97 c1_i32_1045
  let v1025 : BitVec 32 := Scalar.addi c0_i32_1046 v1024
  v1025.toNat
def k0_dev30 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_1065 : BitVec 32 := 1#32
  let v1042 : BitVec 32 := Scalar.muli v65 c1_i32_1065
  let v1043 : BitVec 32 := Scalar.addi c0_i32_1066 v1042
  v1043.toNat
def k0_dev31 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_54 : BitVec 32 := 1#32
  let c0_i32_53 : BitVec 32 := 0#32
  let v69 : BitVec 32 := Scalar.select v68 c1_i32_54 c0_i32_53
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1167 : BitVec 32 := 1#32
  let v1144 : BitVec 32 := Scalar.muli v97 c1_i32_1167
  let v1145 : BitVec 32 := Scalar.addi c0_i32_1168 v1144
  v1145.toNat
def k0_dev32 (d0 : Dev nD) : Nat :=
  let c0_i32_1208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c11_i32_41 : BitVec 32 := 11#32
  let c10_i32_38 : BitVec 32 := 10#32
  let v54 : BitVec 1 := Scalar.cmpi .eq v35 c10_i32_38
  let c7_i32_39 : BitVec 32 := 7#32
  let c9_i32_36 : BitVec 32 := 9#32
  let v52 : BitVec 1 := Scalar.cmpi .eq v35 c9_i32_36
  let c3_i32_37 : BitVec 32 := 3#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c6_i32_33 : BitVec 32 := 6#32
  let c6_i32_30 : BitVec 32 := 6#32
  let v46 : BitVec 1 := Scalar.cmpi .eq v35 c6_i32_30
  let c10_i32_31 : BitVec 32 := 10#32
  let c5_i32_28 : BitVec 32 := 5#32
  let v44 : BitVec 1 := Scalar.cmpi .eq v35 c5_i32_28
  let c14_i32_29 : BitVec 32 := 14#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c9_i32_25 : BitVec 32 := 9#32
  let c2_i32_22 : BitVec 32 := 2#32
  let v38 : BitVec 1 := Scalar.cmpi .eq v35 c2_i32_22
  let c5_i32_23 : BitVec 32 := 5#32
  let c1_i32_19 : BitVec 32 := 1#32
  let v36 : BitVec 1 := Scalar.cmpi .eq v35 c1_i32_19
  let c1_i32_21 : BitVec 32 := 1#32
  let c0_i32_20 : BitVec 32 := 0#32
  let v37 : BitVec 32 := Scalar.select v36 c1_i32_21 c0_i32_20
  let v39 : BitVec 32 := Scalar.select v38 c5_i32_23 v37
  let v41 : BitVec 32 := Scalar.select v40 c9_i32_25 v39
  let v43 : BitVec 32 := Scalar.select v42 c13_i32_27 v41
  let v45 : BitVec 32 := Scalar.select v44 c14_i32_29 v43
  let v47 : BitVec 32 := Scalar.select v46 c10_i32_31 v45
  let v49 : BitVec 32 := Scalar.select v48 c6_i32_33 v47
  let v51 : BitVec 32 := Scalar.select v50 c2_i32_35 v49
  let v53 : BitVec 32 := Scalar.select v52 c3_i32_37 v51
  let v55 : BitVec 32 := Scalar.select v54 c7_i32_39 v53
  let v57 : BitVec 32 := Scalar.select v56 c11_i32_41 v55
  let v59 : BitVec 32 := Scalar.select v58 c15_i32_43 v57
  let v61 : BitVec 32 := Scalar.select v60 c12_i32_45 v59
  let v63 : BitVec 32 := Scalar.select v62 c8_i32_47 v61
  let v65 : BitVec 32 := Scalar.select v64 c4_i32_49 v63
  let c1_i32_1207 : BitVec 32 := 1#32
  let v1178 : BitVec 32 := Scalar.muli v65 c1_i32_1207
  let v1179 : BitVec 32 := Scalar.addi c0_i32_1208 v1178
  v1179.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Ring.Facts.lean ====
module

public import proofs.«01_k».proof.KernelIdeal
public import proofs.«01_k».proof.Kernel
public import Idealize.ShloMosaic.Lib.Decide

/-!
The side conditions that the two printed programs state: every rectangle lies in its buffer, every copy moves whole
words, every addressed device exists. The only one with a range to go over is the band of rows that a product is
stored to, for sixteen devices and sixteen slots.
-/

@[expose] public section

namespace Cert.AllGather

open Idealize.ShloMosaic

/-- The conditions of the ideal program. -/
instance idealFacts₀ : Cert.KernelIdeal.Facts₀ := by
  constructor
  all_goals try decide +kernel
  all_goals first | decide | exact fun | 0 => Memref.isWhole_whole _

/-- The conditions of the ideal program, its windows included. -/
instance idealFacts : Cert.KernelIdeal.Facts := ⟨⟩

/-- The conditions of the program over machine words. -/
instance bitsFacts₀ : Cert.Kernel.Facts₀ := by
  constructor
  all_goals try decide +kernel
  all_goals first | decide | exact fun | 0 => Memref.isWhole_whole _

/-- The conditions of the program over machine words, its windows included. -/
instance bitsFacts : Cert.Kernel.Facts := ⟨⟩

end Cert.AllGather

end
-- ==== Proof.Ring.Around.lean ====
/-
The ring the sixteen devices stand on.

A device has a position on a fixed closed walk through the sixteen devices; its two neighbours are the devices at
the positions before and after its own. Slot `s` of a device's gathered copy of `x` holds, when the ring has gone
round, the rows of the device `s` positions before it.
-/
module

public import proofs.«01_k».proof.Proof.Ring.Facts

@[expose] public section

noncomputable section

namespace Cert.AllGather

open Cert.KernelIdeal
open Idealize.ShloMosaic

/-- The device at each position of the walk. -/
def deviceAt (p : Fin 16) : Dev nD := (![0, 1, 5, 9, 13, 14, 10, 6, 2, 3, 7, 11, 15, 12, 8, 4] : Fin 16 → Fin 16) p
/-- Each device's position on the walk. -/
def positionOf (c : Dev nD) : Fin 16 := (![0, 1, 8, 9, 15, 2, 7, 10, 14, 3, 6, 11, 13, 4, 5, 12] : Fin 16 → Fin 16) c

/-- The two directions: `true` goes to the next position, `false` to the one before. -/
def next (d : Bool) (c : Dev nD) : Dev nD := deviceAt (if d then positionOf c + 1 else positionOf c - 1)

theorem next_next (d : Bool) (c : Dev nD) : next (!d) (next d c) = c := by revert d c; decide
theorem next_not_next (d : Bool) (c : Dev nD) : next d (next (!d) c) = c := by revert d c; decide

/-- One step round the ring in a direction, as a permutation of the devices. -/
def around (d : Bool) : Dev nD ≃ Dev nD := ⟨next d, next (!d), next_next d, next_not_next d⟩

/-- The slot a hop reads, and the slot of the neighbour it fills. -/
def srcSlot (d : Bool) (h : Fin 8) : Fin 16 := bif d then ⟨h.val, by omega⟩ else ⟨(16 - h.val) % 16, by omega⟩
def dstSlot (d : Bool) (h : Fin 8) : Fin 16 := bif d then ⟨h.val + 1, by omega⟩ else ⟨15 - h.val, by omega⟩

/-- The device whose rows slot `s` of device `c` gets. -/
def origin (c : Dev nD) (s : Fin 16) : Dev nD := deviceAt (positionOf c - s)

theorem origin_zero (c : Dev nD) : origin c 0 = c := by revert c; decide
/-- A hop carries the rows on: what the sender's slot holds is what the receiver's slot is to hold. -/
theorem origin_hop (d : Bool) (c : Dev nD) (h : Fin 8) : origin (next d c) (dstSlot d h) = origin c (srcSlot d h) := by
  revert d c h; decide
theorem origin_hop' (d : Bool) (c : Dev nD) (h : Fin 8) : origin c (dstSlot d h) = origin (next (!d) c) (srcSlot d h) := by
  revert d c h; decide
/-- Every device's rows are in exactly one slot. -/
theorem origin_injective (c : Dev nD) : Function.Injective (origin c) := by revert c; decide

theorem dev1_eq (c : Dev nD) : k0_dev1 c = (next false c).val := by revert c; decide
theorem dev2_eq (c : Dev nD) : k0_dev2 c = (next true c).val := by revert c; decide
theorem dev3_eq (c : Dev nD) : k0_dev3 c = (next true c).val := by revert c; decide
theorem off1_eq (c : Dev nD) (s : Fin 16) : k0_off1 c (BitVec.ofNat 32 s.val) = ![256 * (origin c s).val, 0] := by
  revert c s; decide

end Cert.AllGather

end
-- ==== Proof.Ring.Program.lean ====
/-
The body of the kernel, restated as the steps of a gather on a ring.

The printed body spells out every step with its own constants. Here one step is one definition, at a symbolic
direction, hop and half, and `body` is the sequence of them; `body_eq` says that the printed body is that sequence.
-/
module

public import proofs.«01_k».proof.Proof.Ring.Around

@[expose] public section

noncomputable section

namespace Cert.AllGather

open Cert.KernelIdeal Cert.KernelIdeal.Facts₀
open Idealize.ShloMosaic Idealize.SL.Sem

variable {F : FTy → Type} [FloatOps F]

/-! ## Views and semaphores -/

/-- The gathered copy of `x`: sixteen slots of 256 rows. -/
abbrev xg : Memref sig .tc .vmem S16x256x4096 .bf16 := Memref.whole cc0_scratch0
/-- The device's own copy of its columns of `w_mat`. -/
abbrev wb : Memref sig .tc .vmem S4096x128 .bf16 := Memref.whole cc0_scratch1

theorem half_inb (s : Fin 16) (j : Fin 2) :
    ∀ a, (![s.val, 128 * j.val, 0] : Fin 3 → ℕ) a + S1x128x4096.size a ≤ S16x256x4096.size a := by
  revert s j; decide
theorem slot_inb (s : Fin 16) :
    ∀ a, (![s.val, 0, 0] : Fin 3 → ℕ) a + S1x256x4096.size a ≤ S16x256x4096.size a := by
  revert s; decide
theorem rows_inb (j : Fin 2) : ∀ a, (![128 * j.val, 0] : Fin 2 → ℕ) a + S128x4096.size a ≤ S256x4096.size a := by
  revert j; decide
theorem sem_inb (k : Fin 16) : ∀ a, (![k.val] : Fin 1 → ℕ) a + S1.size a ≤ S16.size a := by revert k; decide

/-- The rectangle of one half of a slot. -/
abbrev halfRect (s : Fin 16) (j : Fin 2) : Rect S16x256x4096 :=
  Rect.unit (s := S16x256x4096) ![s.val, 128 * j.val, 0] S1x128x4096.size (half_inb s j)
/-- The rectangle of a slot. -/
abbrev slotRect (s : Fin 16) : Rect S16x256x4096 :=
  Rect.unit (s := S16x256x4096) ![s.val, 0, 0] S1x256x4096.size (slot_inb s)
/-- The rectangle of one half of the device's own rows. -/
abbrev rowsRect (j : Fin 2) : Rect S256x4096 :=
  Rect.unit (s := S256x4096) ![128 * j.val, 0] S128x4096.size (rows_inb j)
/-- The rectangle of the result that the product of slot `s` goes to. -/
abbrev bandRect (c : Dev nD) (s : Fin 16) : Rect S4096x128 :=
  Rect.unit (s := S4096x128) (k0_off1 c (BitVec.ofNat 32 s.val)) S256x128.size (k0_off1_inb c s)
/-- The whole of a matrix of 4096 rows. -/
abbrev colsRect : Rect S4096x128 :=
  Rect.unit (s := S4096x128) ![0, 0] S4096x128.size inb_S4096x128_S4096x128_0_0

theorem half_words (s : Fin 16) (j : Fin 2) : (halfRect s j).WholeWords (EltTy.packing .bf16) := by
  revert s j; decide
theorem half_packed (s : Fin 16) (j : Fin 2) : (halfRect s j).PackedRows (EltTy.packing .bf16) := by
  revert s j; decide

/-- One half of a slot, as the matrix that a copy moves. -/
abbrev half (s : Fin 16) (j : Fin 2) : Memref sig .tc .vmem S128x4096 .bf16 :=
  (xg.slice (halfRect s j) (fun _ => rfl)).squeeze S128x4096 squeezes_S1x128x4096_S128x4096

theorem half_exact (s : Fin 16) (j : Fin 2) : (half s j).view.WordExact :=
  ((Memref.isWhole_whole cc0_scratch0).wordExact_slice rfl _ (half_words s j)).reshape _ _

/-- A copy of the ring: its direction, its hop, its half. -/
abbrev Leg := Bool × Fin 8 × Fin 2

/-- The place of a copy's semaphore in its direction's array. -/
def place (h : Fin 8) (j : Fin 2) : Fin 16 := ⟨2 * h.val + j.val, by omega⟩

abbrev semAt (arr : DmaSems sig S16) (k : Fin 16) : DmaSem sig :=
  ((arr.slice (Rect.unit (s := S16) ![k.val] S1.size (sem_inb k))).squeeze S_ squeezes_S1_S_).sem

/-- The semaphore a copy credits at its sender, and the one it credits at its receiver. -/
def sendSem (l : Leg) : DmaSem sig :=
  semAt (match l.1 with | true => cc0_scratch2 | false => cc0_scratch4) (place l.2.1 l.2.2)
def recvSem (l : Leg) : DmaSem sig :=
  semAt (match l.1 with | true => cc0_scratch3 | false => cc0_scratch5) (place l.2.1 l.2.2)

/-- Where a copy reads and where it writes. -/
def src (l : Leg) : Memref sig .tc .vmem S128x4096 .bf16 := half (srcSlot l.1 l.2.1) l.2.2
def dst (l : Leg) : Memref sig .tc .vmem S128x4096 .bf16 := half (dstSlot l.1 l.2.1) l.2.2

/-- The last hop carries one half in each direction. -/
def used (l : Leg) : Prop := l.2.1 = 7 → l.2.2 = bif l.1 then 0 else 1
instance : DecidablePred used := fun _ => inferInstanceAs (Decidable (_ → _))

/-! ## Steps -/

/-- The device a copy goes to, as the printed body computes it. -/
def partnerNat (l : Leg) : Dev nD → ℕ :=
  (![k0_dev3, k0_dev4, k0_dev5, k0_dev6, k0_dev7, k0_dev8, k0_dev9, k0_dev10, k0_dev11, k0_dev12, k0_dev13, k0_dev14,
    k0_dev15, k0_dev16, k0_dev17, k0_dev18, k0_dev19, k0_dev20, k0_dev21, k0_dev22, k0_dev23, k0_dev24, k0_dev25,
    k0_dev26, k0_dev27, k0_dev28, k0_dev29, k0_dev30, k0_dev31, k0_dev32, k0_dev31, k0_dev32] : Fin 32 → Dev nD → ℕ)
    ⟨4 * l.2.1.val + 2 * l.2.2.val + (match l.1 with | true => 0 | false => 1), by cases l.1 <;> simp <;> omega⟩

theorem partnerNat_lt (l : Leg) (c : Dev nD) : partnerNat l c < nD := by
  revert l c; decide +kernel
theorem partnerNat_eq (l : Leg) (c : Dev nD) : partnerNat l c = (next l.1 c).val := by
  revert l c; decide +kernel

/-- What the body stores for a half of the device's own rows. -/
def ownHalf (v : Vec F S128x4096 .bf16) : FVec F S1x128x4096 .bf16 :=
  shapeCast S1x128x4096 (shapeCast S128x4096 v shapeCasts_S128x4096_S128x4096) shapeCasts_S128x4096_S1x128x4096
/-- What the body stores for the device's own columns. -/
def ownCols (v : Vec F S4096x128 .bf16) : FVec F S4096x128 .bf16 :=
  shapeCast S4096x128 (shapeCast S4096x128 v shapeCasts_S4096x128_S4096x128) shapeCasts_S4096x128_S4096x128
/-- What the body stores for a slot: the product with the columns, times its logistic. -/
def band (a : Vec F S1x256x4096 .bf16) (b : Vec F S4096x128 .bf16) : FVec F S256x128 .f32 :=
  mulf (matmul dot_S256x4096_S4096x128_S256x128_1_0_0_1_n_n none
      (shapeCast S256x4096 a shapeCasts_S1x256x4096_S256x4096) b (constant S256x128 .f32 0x00000000#32))
    (logistic (matmul dot_S256x4096_S4096x128_S256x128_1_0_0_1_n_n none
      (shapeCast S256x4096 a shapeCasts_S1x256x4096_S256x4096) b (constant S256x128 .f32 0x00000000#32)))

section Steps
variable (arg0 : Memref sig .tc .vmem S256x4096 .bf16) (arg1 : Memref sig .tc .vmem S4096x128 .bf16)
  (arg2 : Memref sig .tc .vmem S4096x128 .f32)

/-- Start a copy towards `peer`. -/
def start (peer : Dev nD) (l : Leg) : Prog (TpuEff nD τ sig (Elt F) Λ₀ .tc) PUnit :=
  Prog.lift (.enqueueDma (src l) (.remote (Dev.tc peer) (dst l) (.dma (sendSem l))) (.dma (recvSem l))
    (half_exact _ _) (half_exact _ _) ⟨⟨rfl, Or.inl rfl⟩, trivial⟩)
/-- Wait for a copy to arrive here. -/
def arrive (l : Leg) : Prog (TpuEff nD τ sig (Elt F) Λ₀ .tc) PUnit :=
  Prog.lift (.waitDma2 (recvSem l) (src l) (dst l) (half_exact _ _) (half_exact _ _))
/-- Wait for a copy to have left. -/
def depart (l : Leg) : Prog (TpuEff nD τ sig (Elt F) Λ₀ .tc) PUnit :=
  Prog.lift (.waitDma2 (sendSem l) (dst l) (src l) (half_exact _ _) (half_exact _ _))

/-- Put a half of the device's own rows into slot 0. -/
def fillHalf (j : Fin 2) : Prog (TpuEff nD τ sig (Elt F) Λ₀ .tc) PUnit := do
  let v ← Prog.lift (.load arg0 (rowsRect j).toLoadRect (View.loadsAt_vmem h_S128x4096))
  let _ ← Prog.lift (.load xg (halfRect 0 j).toLoadRect (View.loadsAt_vmem h_S1x128x4096))
  Prog.lift (.store xg (halfRect 0 j) (ownHalf v) Finset.univ
    (View.stores_vmem h_S1x128x4096 ((Memref.isWhole_whole cc0_scratch0).storeExact_slice rfl _ (half_packed 0 j))
      (fun _ => rfl)) (.inl rfl))
/-- Copy the device's own columns. -/
def fillCols : Prog (TpuEff nD τ sig (Elt F) Λ₀ .tc) PUnit := do
  let v ← Prog.lift (.load arg1 colsRect.toLoadRect (View.loadsAt_vmem h_S4096x128))
  let _ ← Prog.lift (.load wb colsRect.toLoadRect (View.loadsAt_vmem h_S4096x128))
  Prog.lift (.store wb colsRect (ownCols v) Finset.univ
    (View.stores_vmem h_S4096x128
      ((Memref.isWhole_whole cc0_scratch1).storeExact_slice rfl _ packedbf16_S4096x128_S4096x128_0_0)
      (fun _ => rfl)) (.inl rfl))
/-- The product of one slot with the columns. -/
def multiply (c : Dev nD) (s : Fin 16) : Prog (TpuEff nD τ sig (Elt F) Λ₀ .tc) PUnit := do
  let a ← Prog.lift (.load xg (slotRect s).toLoadRect (View.loadsAt_vmem h_S1x256x4096))
  let b ← Prog.lift (.load wb colsRect.toLoadRect (View.loadsAt_vmem h_S4096x128))
  let _ ← Prog.lift (.load arg2 (bandRect c s).toLoadRect (View.loadsAt_vmem h_S256x128))
  Prog.lift (.store arg2 (bandRect c s) (band a b) Finset.univ
    (View.stores_vmem_bits_univ h_S256x128 rfl) (.inl rfl))

/-- A half of a hop in one direction: wait for it, and send it on. -/
def relay (peer : Leg → Dev nD) (d : Bool) (j : Fin 2) (h h' : Fin 8) : Prog (TpuEff nD τ sig (Elt F) Λ₀ .tc) PUnit := do
  arrive (d, h, j)
  start (peer (d, h', j)) (d, h', j)
/-- A hop that is sent on whole, and the products of the two slots it fills. -/
def hop (peer : Leg → Dev nD) (c : Dev nD) (h h' : Fin 8) : Prog (TpuEff nD τ sig (Elt F) Λ₀ .tc) PUnit := do
  relay peer true 0 h h'
  relay peer false 0 h h'
  relay peer true 1 h h'
  relay peer false 1 h h'
  multiply arg2 c (dstSlot true h)
  multiply arg2 c (dstSlot false h)

/-- The copies in the order in which their departures are waited for. -/
def legs : List Leg :=
  ([0, 1, 2, 3, 4, 5, 6] : List (Fin 8)).flatMap (fun h => [(true, h, 0), (false, h, 0), (true, h, 1), (false, h, 1)])
    ++ [(true, 7, 0), (false, 7, 1)]

/-- Wait for every copy of a list to have left. -/
def departAll : List Leg → Prog (TpuEff nD τ sig (Elt F) Λ₀ .tc) PUnit
  | [] => pure ⟨⟩
  | l :: ls => do depart l; departAll ls

/-- The two neighbours told that this device has begun, and both heard of. -/
def greet (left right : Dev nD) : Prog (TpuEff nD τ sig (Elt F) Λ₀ .tc) PUnit := do
  semSignalWord left barrier0 1#32
  semSignalWord right barrier0 1#32

/-- The body, with the two devices signalled and the one each copy goes to as parameters. -/
def bodyTo (left right : Dev nD → Dev nD) (peer : Dev nD → Leg → Dev nD) : Prog (TpuEff nD τ sig (Elt F) Λ₀ .tc) PUnit := do
  let c : Dev nD ← Prog.lift .deviceId
  greet (left c) (right c)
  fillHalf arg0 0
  semWaitWord barrier0 2#32
  start (peer c (true, 0, 0)) (true, 0, 0)
  start (peer c (false, 0, 0)) (false, 0, 0)
  fillHalf arg0 1
  start (peer c (true, 0, 1)) (true, 0, 1)
  start (peer c (false, 0, 1)) (false, 0, 1)
  fillCols arg1
  multiply arg2 c 0
  hop arg2 (peer c) c 0 1
  hop arg2 (peer c) c 1 2
  hop arg2 (peer c) c 2 3
  hop arg2 (peer c) c 3 4
  hop arg2 (peer c) c 4 5
  hop arg2 (peer c) c 5 6
  relay (peer c) true 0 6 7
  arrive (false, 6, 0)
  arrive (true, 6, 1)
  relay (peer c) false 1 6 7
  multiply arg2 c 7
  multiply arg2 c 9
  arrive (true, 7, 0)
  arrive (false, 7, 1)
  multiply arg2 c 8
  departAll legs

/-- The body as the gather on the ring. -/
abbrev body : Prog (TpuEff nD τ sig (Elt F) Λ₀ .tc) PUnit :=
  bodyTo arg0 arg1 arg2 (next false) (next true) (fun c l => next l.1 c)

set_option maxRecDepth 65536 in
/-- The printed body is this sequence, its peers still as it computes them. -/
theorem printed_eq (h0 : arg0.IsWhole) (h1 : arg1.IsWhole) (h2 : arg2.IsWhole) :
    cc0_body (F := F) arg0 h0 arg1 h1 arg2 h2 xg (Memref.isWhole_whole _) wb (Memref.isWhole_whole _)
        cc0_scratch2 cc0_scratch3 cc0_scratch4 cc0_scratch5
      = bodyTo arg0 arg1 arg2 (fun c => ⟨k0_dev1 c, k0_dev1_lt c⟩) (fun c => ⟨k0_dev2 c, k0_dev2_lt c⟩)
          (fun c l => ⟨partnerNat l c, partnerNat_lt l c⟩) := by
  rfl

/-- The printed body is the gather on the ring. -/
theorem body_eq (h0 : arg0.IsWhole) (h1 : arg1.IsWhole) (h2 : arg2.IsWhole) :
    cc0_body (F := F) arg0 h0 arg1 h1 arg2 h2 xg (Memref.isWhole_whole _) wb (Memref.isWhole_whole _)
        cc0_scratch2 cc0_scratch3 cc0_scratch4 cc0_scratch5
      = body arg0 arg1 arg2 := by
  have hl : (fun c => ⟨k0_dev1 c, k0_dev1_lt c⟩ : Dev nD → Dev nD) = next false :=
    funext fun c => Fin.ext (dev1_eq c)
  have hr : (fun c => ⟨k0_dev2 c, k0_dev2_lt c⟩ : Dev nD → Dev nD) = next true :=
    funext fun c => Fin.ext (dev2_eq c)
  have hp : (fun c l => ⟨partnerNat l c, partnerNat_lt l c⟩ : Dev nD → Leg → Dev nD) = fun c l => next l.1 c :=
    funext fun c => funext fun l => Fin.ext (partnerNat_eq l c)
  rw [printed_eq, hl, hr, hp]

end Steps

end Cert.AllGather

end
-- ==== Proof.Ring.Kit.lean ====
/-
What the launch of the one kernel needs to know of its windows and semaphores, and the worlds the run is stated in.
-/
module

public import proofs.«01_k».proof.Proof.Ring.Program
public import Idealize.ShloMosaic.Lib.Pipeline.Kit
public import Idealize.ShloMosaic.Lib.Pipeline.Regions
public import Idealize.ShloMosaic.Lib.Pipeline.Launch
public import Idealize.ShloMosaic.Lib.Pipeline.FrameBody
public import Idealize.ShloMosaic.Lib.Ring
public import Idealize.ShloMosaic.Lib.Rounds
public import Idealize.ShloMosaic.Lib.Tactic

@[expose] public section

noncomputable section

namespace Cert.AllGather

open Cert.KernelIdeal
open Idealize.ShloMosaic Idealize.ShloMosaic.TcCoe
open Idealize.SL Idealize.SL.RA Idealize.SL.BI
open scoped Idealize.SL.BI
open Idealize.SL.BI.BIBase Idealize.SL.Sem

/-! ## Windows -/

abbrev stagingSems : Fin 1 → List (DmaSem sig) := fun _ => Pipeline.specSems spec0

theorem staging_inj : Function.Injective (Pipeline.cellOf (nD := nD) (τ := τ) cfgs) :=
  Pipeline.cellOf_injective_of_table cfgs stagingSems
    (fun | 0 => rfl | ⟨_ + 1, h⟩ => absurd h (Nat.not_lt.2 (Nat.le_add_left _ _))) (by decide) (by decide)

theorem winFacts : Pipeline.WinFacts spec0 := by decide
theorem block_pos : ∀ w : Fin 3, 0 < (spec0 w).block.numel := by decide
theorem arr_whole : ∀ w : Fin 3, (spec0 w).arr.IsWhole := by
  intro w; fin_cases w <;> exact Memref.isWhole_whole _
theorem stage_whole : ∀ (w : Fin 3) (s : Fin (spec0 w).nbuf), ((spec0 w).stage s).IsWhole := by
  intro w s; fin_cases w <;> exact Memref.isWhole_whole _

theorem points : cfg0.N = 1 := by decide
def point : Fin cfg0.N := ⟨0, by rw [points]; decide⟩
theorem eq_point (t : Fin cfg0.N) : t = point := by
  obtain ⟨t, ht⟩ := t; have := points; exact Fin.ext (by simp only [point]; omega)

theorem fetch_x (t : Fin cfg0.N) : (cfg0.win (0 : Fin 3)).fetch t = true := by rw [eq_point t]; decide +kernel
theorem fetch_w (t : Fin cfg0.N) : (cfg0.win (1 : Fin 3)).fetch t = true := by rw [eq_point t]; decide +kernel
theorem flush_out (t : Fin cfg0.N) : (cfg0.win (2 : Fin 3)).flush t = true := by rw [eq_point t]; decide +kernel

theorem windows {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section
variable {Ix : Type} [DecidableEq Ix] {Val : EltTy → Type} {Name : Type} [DecidableEq Name] {U : Type} [URA U] {Lvl : Type}

/-- The buffers of a device that are no window: the two it keeps between its steps. -/
theorem scratch_eq (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ (∃ f : Buf Val ((c : Thread nD τ).loc cc0_scratch1), ((c : Thread nD τ).loc cc0_scratch1) ↦{fullShare} f)) :=
  Pipeline.scopedRest_eq_of_list spec0 c [cc0_scratch0, cc0_scratch1] (by decide) (by decide)
end

/-! ## Cells -/

/-- The semaphore of the barrier. -/
abbrev barSem : SemLoc sig := .reg barrier0

/-- The semaphores of the copies: of a copy's departure (`false`) and of its arrival (`true`). -/
abbrev copySem (k : Bool × Leg) : SemLoc sig := .dma (match k.1 with | false => sendSem k.2 | true => recvSem k.2)

theorem copySems : Pipeline.OwnSemFacts cfg0.spec copySem := by decide +kernel

/-- A semaphore of the protocol: the barrier's, or a copy's. -/
abbrev Slot := Unit ⊕ (Bool × Leg)
abbrev slotSem : Slot → SemLoc sig
  | .inl _ => barSem
  | .inr k => copySem k

theorem slotSem_injective : Function.Injective slotSem := by decide +kernel

/-- Which semaphore of the protocol a semaphore is. -/
def slotOf (s : SemLoc sig) : Option Slot :=
  (Finset.univ.filter fun k => slotSem k = s).toList.head?

theorem slotOf_slotSem (k : Slot) : slotOf (slotSem k) = some k := by
  unfold slotOf
  rw [show (Finset.univ.filter fun k' => slotSem k' = slotSem k) = {k} from by
    ext k'; simp [slotSem_injective.eq_iff]]
  simp

/-- A cell of the protocol: a semaphore of a device. -/
abbrev cell (c : Dev nD) (k : Slot) : GSem nD τ sig := ((c : Thread nD τ), slotSem k)
abbrev barCell (c : Dev nD) : GSem nD τ sig := cell c (.inl ())
abbrev sendCell (c : Dev nD) (l : Leg) : GSem nD τ sig := cell c (.inr (false, l))
abbrev recvCell (c : Dev nD) (l : Leg) : GSem nD τ sig := cell c (.inr (true, l))

theorem cell_injective : Function.Injective (fun ck : Dev nD × Slot => cell ck.1 ck.2) := by
  rintro ⟨c, k⟩ ⟨c', k'⟩ h
  have h1 : c = c' := by have := congrArg (fun g : GSem nD τ sig => g.1.1) h; exact this
  have h2 : k = k' := slotSem_injective (congrArg Prod.snd h)
  rw [h1, h2]

theorem cell_inj {c c' : Dev nD} {k k' : Slot} (h : cell c k = cell c' k') : c = c' ∧ k = k' :=
  Prod.mk.inj (cell_injective (a₁ := (c, k)) (a₂ := (c', k')) h)

end Cert.AllGather

end
-- ==== Proof.Ring.Contents.lean ====
/-
What the buffers of a device hold while the ring goes round.

`X` is the family of the devices' own rows and `W` that of their columns. The gathered copy of a device is described
once, as it is when all has arrived: a piece of it (half a slot) that has not arrived yet is simply not spoken of.
The result is described band by band in the same way.
-/
module

public import proofs.«01_k».proof.Proof.Ring.Kit
public import Idealize.ShloMosaic.Lib.Pipeline.Value

@[expose] public section

noncomputable section

namespace Cert.AllGather

open Cert.KernelIdeal Cert.KernelIdeal.Facts₀
open Idealize.ShloMosaic Idealize.ShloMosaic.TcCoe

variable {F : FTy → Type} [FloatOps F]

/-! ## The pieces of the gathered copy -/

/-- The elements of half `j` of slot `s`. -/
def piece (s : Fin 16) (j : Fin 2) : Finset S16x256x4096.Idx := (half s j).view.set

omit [FloatOps F] in
theorem piece_eq (s : Fin 16) (j : Fin 2) : piece s j = (halfRect s j).set :=
  (View.set_reshape _ _).trans (View.set_slice_whole _ _)

theorem mem_piece {s : Fin 16} {j : Fin 2} {i : S16x256x4096.Idx} :
    i ∈ piece s j ↔ (i 0).val = s.val ∧ (i 1).val / 128 = j.val := by
  rw [piece_eq, Rect.mem_set_unit]
  have h2 := (i 2).isLt
  constructor
  · intro h
    have h0 := h 0; have h1 := h 1
    simp [S1x128x4096] at h0 h1
    omega
  · rintro ⟨h0, h1⟩ a
    fin_cases a <;> simp [S1x128x4096] <;> simp [S16x256x4096] at h2 <;> omega

theorem slot_set (s : Fin 16) : (slotRect s).set = piece s 0 ∪ piece s 1 := by
  ext i
  have h1 := (i 1).isLt; have h2 := (i 2).isLt
  simp only [S16x256x4096] at h1 h2
  rw [Finset.mem_union, mem_piece, mem_piece, Rect.mem_set_unit]
  constructor
  · intro h
    have h0 := h 0
    simp [S1x256x4096] at h0
    simp at h1 ⊢
    omega
  · intro h a
    simp at h1 h2 h
    fin_cases a <;> simp [S1x256x4096] <;> omega

theorem piece_disjoint {s s' : Fin 16} {j j' : Fin 2} (h : (s, j) ≠ (s', j')) : Disjoint (piece s j) (piece s' j') := by
  rw [Finset.disjoint_left]
  intro i hi hi'
  rw [mem_piece] at hi hi'
  exact h (Prod.ext (Fin.ext (hi.1.symm.trans hi'.1)) (Fin.ext (hi.2.symm.trans hi'.2)))

/-- The pieces make up the gathered copy. -/
theorem pieces_cover : Finset.univ.biUnion (fun sj : Fin 16 × Fin 2 => piece sj.1 sj.2) = Finset.univ := by
  ext i
  simp only [Finset.mem_biUnion, Finset.mem_univ, true_and, iff_true]
  have h1 := (i 1).isLt
  simp only [S16x256x4096] at h1
  simp at h1
  exact ⟨(i 0, ⟨(i 1).val / 128, by omega⟩), mem_piece.mpr ⟨rfl, rfl⟩⟩

/-! ## What a piece holds -/

/-- The place in a device's own rows of an element of a slot. -/
def inSlot (i : S16x256x4096.Idx) : S256x4096.Idx := fun | 0 => i 1 | 1 => i 2

/-- The gathered copy of device `c`: slot `s` holds the rows of the device `s` positions before it. -/
def gathered (X : Dev nD → Vec F S256x4096 .bf16) (c : Dev nD) : (cc0_scratch0 : Ref sig .tc).ty.Contents (Elt F) :=
  fun i : S16x256x4096.Idx => X (origin c (i 0)) (inSlot i)

/-- The rows of a slot, as the matrix that is multiplied. -/
theorem read_slot (X : Dev nD → Vec F S256x4096 .bf16) (c : Dev nD) (s : Fin 16) :
    shapeCast S256x4096 (xg.view.readAt (Elt F) (slotRect s).toLoadRect (gathered X c) : Vec F S1x256x4096 .bf16)
      shapeCasts_S1x256x4096_S256x4096 = X (origin c s) := by
  funext y
  refine (shapeCast_dropUnit_apply (n := 2) ![256, 4096] _ _ y).trans ?_
  show X (origin c ((slotRect s).emb (Fin.cons ⟨0, Nat.one_pos⟩ y) 0)) (inSlot ((slotRect s).emb (Fin.cons ⟨0, Nat.one_pos⟩ y))) = X (origin c s) y
  rw [show (((slotRect s).emb (Fin.cons ⟨0, Nat.one_pos⟩ y) : S16x256x4096.Idx) 0 : Fin 16) = s from
    Fin.ext (show s.val + 1 * 0 = s.val by omega)]
  congr 1
  funext a
  apply Fin.ext
  match a with
  | 0 => show 0 + 1 * (y 0).val = (y 0).val; omega
  | 1 => show 0 + 1 * (y 1).val = (y 1).val; omega

/-- An element of a half, by its place in the half's rectangle. -/
theorem half_emb (j : Fin 2) (x : S128x4096.Idx) :
    ∃ y : S1x128x4096.Idx, ∀ s : Fin 16, (half s j).view.emb x = (halfRect s j).emb y :=
  ⟨Shape.reshapeEquiv squeezes_S1x128x4096_S128x4096.numel_eq x, fun _ => rfl⟩

theorem half_emb_slot (s : Fin 16) (j : Fin 2) (y : S1x128x4096.Idx) :
    (((halfRect s j).emb y : S16x256x4096.Idx) 0 : Fin 16) = s := by
  have h0 : (y 0).val = 0 := by have := (y 0).isLt; simp [S1x128x4096] at this; omega
  apply Fin.ext
  show s.val + 1 * (y 0).val = s.val
  omega

/-- A copy puts at its target what the target is to hold. -/
theorem landed (X : Dev nD → Vec F S256x4096 .bf16) (l : Leg) (c : Dev nD)
    (f : (cc0_scratch0 : Ref sig .tc).ty.Contents (Elt F)) :
    ∀ i ∈ piece (dstSlot l.1 l.2.1) l.2.2,
      (dst l).view.write (Elt F) f ((src l).view.read (Elt F) (gathered X c)) Finset.univ i
        = gathered X (next l.1 c) i := by
  intro i hi
  obtain ⟨x, rfl⟩ := View.exists_emb_of_mem_set _ hi
  refine (View.write_emb_of_mem (v := (dst l).view) f _ (Finset.mem_univ x)).trans ?_
  show gathered X c ((half (srcSlot l.1 l.2.1) l.2.2).view.emb x)
    = gathered X (next l.1 c) ((half (dstSlot l.1 l.2.1) l.2.2).view.emb x)
  obtain ⟨y, hy⟩ := half_emb l.2.2 x
  rw [hy, hy]
  unfold gathered
  rw [half_emb_slot, half_emb_slot, origin_hop]
  rfl

/-- The device's own rows, stored to slot 0, are what slot 0 is to hold. -/
theorem filled (X : Dev nD → Vec F S256x4096 .bf16) (c : Dev nD) (j : Fin 2)
    (f : (cc0_scratch0 : Ref sig .tc).ty.Contents (Elt F))
    (v : Vec F S128x4096 .bf16) (hv : ∀ y, v y = X c ((rowsRect j).emb y)) :
    ∀ i ∈ piece 0 j, (xg.access (halfRect 0 j)).write (Elt F) f (ownHalf v) Finset.univ i = gathered X c i := by
  intro i hi
  have hi' : i ∈ (xg.access (halfRect 0 j)).set := by rw [piece_eq] at hi; rw [View.set_slice_whole]; exact hi
  obtain ⟨y, rfl⟩ := View.exists_emb_of_mem_set _ hi'
  refine (View.write_emb_of_mem (v := xg.access (halfRect 0 j)) f _ (Finset.mem_univ y)).trans ?_
  show ownHalf v y = gathered X c ((halfRect 0 j).emb y)
  unfold gathered ownHalf
  rw [half_emb_slot, origin_zero, shapeCast_self]
  refine (shapeCast_addUnit_apply (n := 2) ![128, 4096] v _ y).trans ?_
  refine (hv _).trans ?_
  congr 1
  funext a
  match a with
  | 0 => rfl
  | 1 => rfl

/-! ## The result -/

/-- The product of a device's rows with columns, times its logistic. -/
def act (a : Vec F S256x4096 .bf16) (b : Vec F S4096x128 .bf16) : FVec F S256x128 .f32 :=
  mulf (matmul dot_S256x4096_S4096x128_S256x128_1_0_0_1_n_n none a b (constant S256x128 .f32 0x00000000#32))
    (logistic (matmul dot_S256x4096_S4096x128_S256x128_1_0_0_1_n_n none a b (constant S256x128 .f32 0x00000000#32)))

theorem band_eq (a : Vec F S1x256x4096 .bf16) (b : Vec F S4096x128 .bf16) :
    band a b = act (shapeCast S256x4096 a shapeCasts_S1x256x4096_S256x4096) b := rfl

/-- The device whose rows a row of the result comes from, and the place in its band of an element of the result. -/
def ownerOf (i : S4096x128.Idx) : Dev nD := ⟨(i 0).val / 256, Nat.div_lt_of_lt_mul (i 0).isLt⟩
theorem ownerOf_val (i : S4096x128.Idx) : (ownerOf i).val = (i 0).val / 256 := rfl
def inBand (i : S4096x128.Idx) : S256x128.Idx := fun
  | 0 => ⟨(i 0).val % 256, Nat.mod_lt _ (by decide)⟩
  | 1 => i 1

/-- The result of device `c`: band by band, the rows of the sixteen devices by `c`'s columns. -/
def outAt (X : Dev nD → Vec F S256x4096 .bf16) (W : Dev nD → Vec F S4096x128 .bf16) (c : Dev nD) :
    (cc0_stg2_0 : Ref sig .tc).ty.Contents (Elt F) :=
  fun i : S4096x128.Idx => act (X (ownerOf i)) (W c) (inBand i)

/-- The bands of the slots `T` have been stored. -/
def Done (X : Dev nD → Vec F S256x4096 .bf16) (W : Dev nD → Vec F S4096x128 .bf16) (c : Dev nD) (T : Finset (Fin 16))
    (f : (cc0_stg2_0 : Ref sig .tc).ty.Contents (Elt F)) : Prop :=
  ∀ i : S4096x128.Idx, ∀ s ∈ T, ownerOf i = origin c s → f i = outAt X W c i

theorem done_empty (X : Dev nD → Vec F S256x4096 .bf16) (W : Dev nD → Vec F S4096x128 .bf16) (c : Dev nD)
    (f : (cc0_stg2_0 : Ref sig .tc).ty.Contents (Elt F)) : Done X W c ∅ f :=
  fun _ _ h => absurd h (Finset.notMem_empty _)

theorem done_univ {X : Dev nD → Vec F S256x4096 .bf16} {W : Dev nD → Vec F S4096x128 .bf16} {c : Dev nD}
    {f : (cc0_stg2_0 : Ref sig .tc).ty.Contents (Elt F)} (h : Done X W c Finset.univ f) : f = outAt X W c := by
  funext i
  obtain ⟨s, hs⟩ := (Finite.injective_iff_surjective.mp (origin_injective c)) (ownerOf i)
  exact h i s (Finset.mem_univ _) hs.symm

omit [FloatOps F] in
theorem mem_band {c : Dev nD} {s : Fin 16} {i : S4096x128.Idx} :
    i ∈ (bandRect c s).set ↔ ownerOf i = origin c s := by
  have h1 := (i 1).isLt
  simp only [S4096x128] at h1
  simp at h1
  rw [Rect.mem_set_unit, off1_eq, Fin.ext_iff, ownerOf_val]
  constructor
  · intro h
    have h0 := h 0
    simp [S256x128] at h0
    omega
  · intro h a
    fin_cases a <;> simp [S256x128] <;> omega

/-- Storing the band of one more slot. -/
theorem done_insert {X : Dev nD → Vec F S256x4096 .bf16} {W : Dev nD → Vec F S4096x128 .bf16} {c : Dev nD}
    {T : Finset (Fin 16)} {f : (cc0_stg2_0 : Ref sig .tc).ty.Contents (Elt F)} (h : Done X W c T f) (s : Fin 16) :
    Done X W c (insert s T) (((Memref.whole cc0_stg2_0 : Memref sig .tc .vmem S4096x128 .f32).access (bandRect c s)).write (Elt F) f
      (act (X (origin c s)) (W c)) Finset.univ) := by
  intro i s' hs' hi
  by_cases hb : i ∈ (bandRect c s).set
  · have hb' : i ∈ ((Memref.whole cc0_stg2_0 : Memref sig .tc .vmem S4096x128 .f32).access (bandRect c s)).set := by
      rw [View.set_slice_whole]; exact hb
    obtain ⟨y, rfl⟩ := View.exists_emb_of_mem_set _ hb'
    refine (View.write_emb_of_mem (v := (Memref.whole cc0_stg2_0 : Memref sig .tc .vmem S4096x128 .f32).access (bandRect c s))
      f _ (Finset.mem_univ y)).trans ?_
    show act (X (origin c s)) (W c) y = act (X (ownerOf ((bandRect c s).emb y))) (W c) (inBand ((bandRect c s).emb y))
    rw [show ownerOf ((bandRect c s).emb y) = origin c s from mem_band.mp hb]
    congr 1
    have e0 : (((bandRect c s).emb y : S4096x128.Idx) 0).val = 256 * (origin c s).val + 1 * (y 0).val := by
      rw [show ((bandRect c s).emb y 0).val = k0_off1 c (BitVec.ofNat 32 s.val) 0 + 1 * (y 0).val from rfl, off1_eq]; rfl
    have e1 : (((bandRect c s).emb y : S4096x128.Idx) 1).val = 0 + 1 * (y 1).val := by
      rw [show ((bandRect c s).emb y 1).val = k0_off1 c (BitVec.ofNat 32 s.val) 1 + 1 * (y 1).val from rfl, off1_eq]; rfl
    have hy : (y 0).val < 256 := (y 0).isLt
    refine Shape.idx_ext₂ ?_ ?_
    · show (y 0).val = (((bandRect c s).emb y : S4096x128.Idx) 0).val % 256
      omega
    · show (y 1).val = (((bandRect c s).emb y : S4096x128.Idx) 1).val
      omega
  · have hn : s' ∈ T := (Finset.mem_insert.mp hs').resolve_left fun e => hb (mem_band.mpr (e ▸ hi))
    rw [View.write_of_not_mem _ _ _ (by rw [View.setOn_univ, View.set_slice_whole]; exact hb)]
    exact h i s' hn hi

end Cert.AllGather

end
-- ==== Proof.Ring.Schedule.lean ====
/-
The protocol of the ring: which semaphore is raised by whom, for what, and what comes with it.

Every device has one barrier and, for each copy of the ring, a semaphore of its departure and one of its arrival; each
is waited for once. A neighbour's signal on the barrier brings the right to write to that neighbour's pieces. The
arrival of a copy brings its piece, holding what it is to hold; its departure gives back the share of the piece that
the copy was reading.
-/
module

public import proofs.«01_k».proof.Proof.Ring.Contents

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- What one copy credits. -/
abbrev N : ℕ := (half 0 0).view.dmaCredit
theorem N_pos : 0 < N := View.dmaCredit_pos _ (by decide)

/-! ## Pieces held -/

abbrev gath (c : Dev nD) : Loc nD τ sig := (c : Thread nD τ).loc cc0_scratch0

/-- Half `j` of slot `s` of device `c`, at the share `q`, holding `f`. -/
def held (c : Dev nD) (s : Fin 16) (j : Fin 2) (q : PosShare TreeShare) (f : Buf (Elt F) (gath c)) : sProp 𝕄 :=
  gath c ↦[piece s j]{q} f

omit [FloatOps F] in
instance held_storable (c : Dev nD) (s : Fin 16) (j : Fin 2) (q : PosShare TreeShare) (f : Buf (Elt F) (gath c)) :
    BI.Storable (upEmb : UEmb _ 𝕄) (held c s j q f) := by unfold held; infer_instance

/-- The copies of the ring, and those of one direction. -/
def legSet : Finset Leg := Finset.univ.filter used
def legsOf (d : Bool) : Finset Leg := legSet.filter (·.1 = d)

/-- The share of its source that a copy takes along. The two copies of the first hop read the same piece. -/
def lentShare (l : Leg) : PosShare TreeShare :=
  if l.2.1 = 0 then (if l.1 then fullShare.left else fullShare.right.left) else fullShare.left

variable (X : Dev nD → Vec F S256x4096 .bf16)

/-- The piece that device `c`'s copy `l` is to write, at whatever it holds. -/
def room (c : Dev nD) (l : Leg) : sProp 𝕄 :=
  iprop(∃ f, held (F := F) (next l.1 c) (dstSlot l.1 l.2.1) l.2.2 fullShare f)
/-- The share of its source that device `c`'s copy `l` takes along. -/
def lent (c : Dev nD) (l : Leg) : sProp 𝕄 := held c (srcSlot l.1 l.2.1) l.2.2 (lentShare l) (gathered X c)
/-- The piece that copy `l` brings to device `c`. -/
def arrived (c : Dev nD) (l : Leg) : sProp 𝕄 := held c (dstSlot l.1 l.2.1) l.2.2 fullShare (gathered X c)
/-- What the signal of `c`'s neighbour in a direction brings. -/
def welcome (c : Dev nD) (d : Bool) : sProp 𝕄 := bigSep (legsOf d) (room (F := F) c)

/-! ## The schedule -/

def plan : Rounds.Schedule (GSem nD τ sig) Bool 𝕄 where
  duties g r := if r = 0 ∧ g.1.2 = .tc then
      (match slotOf g.2 with
        | some (.inl _) => Finset.univ
        | some (.inr k) => if used k.2 then {false} else ∅
        | none => ∅)
    else ∅
  unitless _ := False
  amount g _ _ := match slotOf g.2 with
    | some (.inl _) => 1
    | _ => N
  payload g _ d := match slotOf g.2 with
    | some (.inl _) => welcome g.1.1 d
    | some (.inr (false, l)) => lent X g.1.1 l
    | some (.inr (true, l)) => arrived X g.1.1 l
    | none => iprop(emp)
  amount_pos g _ _ _ := by
    rcases slotOf g.2 with _ | _ | _
    · exact N_pos
    · exact Nat.one_pos
    · exact N_pos

omit [FloatOps F] in
instance plan_storable (g : GSem nD τ sig) (r : ℕ) (d : Bool) :
    BI.Storable (upEmb : UEmb _ 𝕄) ((plan X).payload g r d) := by
  show BI.Storable upEmb (match slotOf g.2 with
    | some (.inl _) => welcome g.1.1 d
    | some (.inr (false, l)) => lent X g.1.1 l
    | some (.inr (true, l)) => arrived X g.1.1 l
    | none => iprop(emp))
  unfold welcome room lent arrived
  split <;> infer_instance

section Plan
variable (c : Dev nD) (l : Leg)

omit [FloatOps F] in
theorem duties_bar : (plan X).duties (barCell c) 0 = Finset.univ := by
  dsimp only [plan]; rw [if_pos ⟨rfl, rfl⟩, slotOf_slotSem]
omit [FloatOps F] in
theorem duties_copy (b : Bool) (hl : used l) : (plan X).duties (cell c (.inr (b, l))) 0 = {false} := by
  dsimp only [plan]; rw [if_pos ⟨rfl, rfl⟩, slotOf_slotSem]; exact if_pos hl
omit [FloatOps F] in
theorem duty_mem (b : Bool) (hl : used l) : false ∈ (plan X).duties (cell c (.inr (b, l))) 0 := by
  rw [duties_copy X c l b hl]; exact Finset.mem_singleton_self _
omit [FloatOps F] in
theorem duties_later (g : GSem nD τ sig) : ∀ r, 1 ≤ r → (plan X).duties g r = ∅ :=
  fun r hr => by dsimp only [plan]; rw [if_neg fun h => by omega]
omit [FloatOps F] in
theorem duties_unused (b : Bool) (hl : ¬ used l) : ∀ r, 0 ≤ r → (plan X).duties (cell c (.inr (b, l))) r = ∅ := by
  intro r _; dsimp only [plan]; rw [slotOf_slotSem]; split
  · exact if_neg hl
  · rfl

omit [FloatOps F] in
theorem amount_bar (d : Bool) : (plan X).amount (barCell c) 0 d = 1 := by
  dsimp only [plan]; rw [slotOf_slotSem]
omit [FloatOps F] in
theorem amount_copy (b d : Bool) : (plan X).amount (cell c (.inr (b, l))) 0 d = N := by
  dsimp only [plan]; rw [slotOf_slotSem]

omit [FloatOps F] in
theorem expect_bar : (plan X).expect (barCell c) 0 = 2 := by
  unfold Schedule.expect Schedule.amountOf
  rw [duties_bar, Finset.sum_congr rfl fun d _ => amount_bar X c d, Finset.sum_const, Finset.card_univ, Fintype.card_bool,
    smul_eq_mul]
omit [FloatOps F] in
theorem expect_copy (b : Bool) (hl : used l) : (plan X).expect (cell c (.inr (b, l))) 0 = N := by
  unfold Schedule.expect Schedule.amountOf; rw [duties_copy X c l b hl, Finset.sum_singleton, amount_copy]

omit [FloatOps F] in
theorem payload_bar (d : Bool) : (plan X).payload (barCell c) 0 d = welcome c d := by
  dsimp only [plan]; rw [slotOf_slotSem]
omit [FloatOps F] in
theorem payload_send (d : Bool) : (plan X).payload (sendCell c l) 0 d = lent X c l := by
  dsimp only [plan]; rw [slotOf_slotSem]
omit [FloatOps F] in
theorem payload_recv (d : Bool) : (plan X).payload (recvCell c l) 0 d = arrived X c l := by
  dsimp only [plan]; rw [slotOf_slotSem]

omit [FloatOps F] in
theorem rest_bar : bigSep ((plan X).duties (barCell c) 0 \ ∅) (fun d => (plan X).payload (barCell c) 0 d)
    = iprop(welcome (F := F) c false ∗ welcome c true) := by
  rw [Finset.sdiff_empty, duties_bar, bigSep_univ_eq_bigSepL [false, true] (by decide) (by decide), bigSepL_cons_cons,
    bigSepL_singleton, payload_bar, payload_bar]
  rfl
omit [FloatOps F] in
theorem rest_copy (b : Bool) (hl : used l) :
    bigSep ((plan X).duties (cell c (.inr (b, l))) 0 \ ∅) (fun d => (plan X).payload (cell c (.inr (b, l))) 0 d)
      = (plan X).payload (cell c (.inr (b, l))) 0 false := by
  rw [Finset.sdiff_empty, duties_copy X c l b hl, bigSep_singleton]

end Plan

/-! ## What is owed, and in which order it may be waited for -/

/-- What device `c` owes for the copies `S` that it has not started: a credit to each one's receiver. -/
def owedFor (c : Dev nD) (S : Finset Leg) : CellTallies nD τ sig Unit := ∑ l ∈ S, tallyAt (recvCell (next l.1 c) l) () N
/-- And at the start, a unit to the barriers of both neighbours. -/
def owedGreet (c : Dev nD) : CellTallies nD τ sig Unit := owedFor c legSet + tallyAt (barCell (next true c)) () 1
def owedAll (c : Dev nD) : CellTallies nD τ sig Unit := owedGreet c + tallyAt (barCell (next false c)) () 1

theorem owedFor_erase (c : Dev nD) {S : Finset Leg} {l : Leg} (h : l ∈ S) :
    owedFor c S = owedFor c (S.erase l) + tallyAt (recvCell (next l.1 c) l) () N :=
  (Finset.sum_erase_add S _ h).symm
theorem owedFor_empty (c : Dev nD) : owedFor c ∅ = 0 := Finset.sum_empty

theorem owedFor_apply (c : Dev nD) (S : Finset Leg) (g : GSem nD τ sig) (u : Unit) :
    owedFor c S g u = ∑ l ∈ S, tallyAt (Ix := Unit) (recvCell (next l.1 c) l) () N g u := by
  unfold owedFor; rw [Finset.sum_apply, Finsupp.finset_sum_apply]

theorem owedFor_pos {c : Dev nD} {S : Finset Leg} {g : GSem nD τ sig} {u : Unit} (h : 0 < owedFor c S g u) :
    ∃ l ∈ S, g = recvCell (next l.1 c) l := by
  rw [owedFor_apply] at h
  obtain ⟨l, hl, hp⟩ := Finset.exists_ne_zero_of_sum_ne_zero h.ne'
  refine ⟨l, hl, ?_⟩
  by_contra hn
  rw [tallyAt_apply, if_neg fun h' => hn h'.1] at hp
  exact hp rfl

theorem owedAll_pos {c : Dev nD} {g : GSem nD τ sig} {u : Unit} (h : 0 < owedAll c g u) :
    (∃ l ∈ legSet, g = recvCell (next l.1 c) l) ∨ ∃ d, g = barCell (next d c) := by
  unfold owedAll owedGreet at h
  rw [Pi.add_apply, Finsupp.add_apply, Pi.add_apply, Finsupp.add_apply, tallyAt_apply, tallyAt_apply] at h
  by_contra hn
  obtain ⟨h₁, h₂⟩ := not_or.mp hn
  rw [if_neg (fun h' => h₂ ⟨_, h'.1⟩), if_neg (fun h' => h₂ ⟨_, h'.1⟩), Nat.add_zero] at h
  exact h₁ (owedFor_pos h)

/-- Levels: departures (and the windows' own copies) first, then the barrier, then the arrivals hop by hop. -/
def L (g : GSem nD τ sig) : Finset Unit := if g.1.2 = .tc then {()} else ∅
def level (g : GSem nD τ sig) (_ : Unit) : ℕ := match slotOf g.2 with
  | some (.inl _) => 1
  | some (.inr (true, l)) => 2 + l.2.1.val
  | _ => 0

theorem L_of_ne (g : GSem nD τ sig) (h : g.1.2 ≠ .tc) : L g = ∅ := if_neg h
theorem L_tc (c : Dev nD) (s : SemLoc sig) : L ((c : Thread nD τ), s) = {()} := if_pos rfl
theorem level_bar (c : Dev nD) : level (barCell c) () = 1 := by dsimp only [level]; rw [slotOf_slotSem]
theorem level_recv (c : Dev nD) (l : Leg) : level (recvCell c l) () = 2 + l.2.1.val := by
  dsimp only [level]; rw [slotOf_slotSem]

/-- The levels, put on record. -/
def levels : sProp 𝕄 := levAts L level

instance : Persistent (levels (F := F)) := by unfold levels; infer_instance

omit [FloatOps F] in
/-- A window's own copy may be waited for at any time. -/
theorem mayWait_window (c : Dev nD) (s : SemLoc sig) (hs : slotOf s = none) (O : CellTallies nD τ sig Unit)
    (hO : O = owedAll c ∨ O = 0) : levels (F := F) ⊢ MayWait (c : Thread nD τ) s () O := by
  rcases hO with rfl | rfl
  · refine MayOwe.of_cut (L := L) (lev := level) 0
      (fun p hp => by rw [Finset.mem_singleton.mp hp, L_tc]; exact Finset.mem_singleton_self _)
      (fun g u hg => by rcases owedAll_pos hg with ⟨l, -, rfl⟩ | ⟨d, rfl⟩ <;> exact Finset.mem_singleton_self _)
      (fun p hp => by rw [Finset.mem_singleton.mp hp]; dsimp only [level]; rw [hs])
      (fun g u hg => by
        rcases owedAll_pos hg with ⟨l, -, rfl⟩ | ⟨d, rfl⟩
        · rw [level_recv]; omega
        · rw [level_bar]; omega)
  · rw [MayWait_zero]; unfold levels; iintro -; iempintro

omit [FloatOps F] in
/-- The barrier may be waited for before any copy is started. -/
theorem mayWait_bar (c : Dev nD) : levels (F := F) ⊢ MayWait (c : Thread nD τ) barSem () (owedFor c legSet) :=
  MayOwe.of_cut (L := L) (lev := level) 1
    (fun p hp => by rw [Finset.mem_singleton.mp hp, L_tc]; exact Finset.mem_singleton_self _)
    (fun g u hg => by obtain ⟨l, -, rfl⟩ := owedFor_pos hg; exact Finset.mem_singleton_self _)
    (fun p hp => by rw [Finset.mem_singleton.mp hp]; exact (level_bar c).le)
    (fun g u hg => by obtain ⟨l, -, rfl⟩ := owedFor_pos hg; rw [level_recv]; omega)

omit [FloatOps F] in
/-- An arrival may be waited for when only copies of later hops are still to be started. -/
theorem mayWait_recv (c : Dev nD) (l : Leg) (S : Finset Leg) (hS : ∀ l' ∈ S, l.2.1 < l'.2.1) :
    levels (F := F) ⊢ MayWait (c : Thread nD τ) (copySem (true, l)) () (owedFor c S) :=
  MayOwe.of_cut (L := L) (lev := level) (2 + l.2.1.val)
    (fun p hp => by rw [Finset.mem_singleton.mp hp, L_tc]; exact Finset.mem_singleton_self _)
    (fun g u hg => by obtain ⟨l', -, rfl⟩ := owedFor_pos hg; exact Finset.mem_singleton_self _)
    (fun p hp => by rw [Finset.mem_singleton.mp hp]; exact (level_recv c l).le)
    (fun g u hg => by
      obtain ⟨l', hl', rfl⟩ := owedFor_pos hg
      have := hS l' hl'
      rw [level_recv]
      have : l.2.1.val < l'.2.1.val := this
      omega)

end Cert.AllGather

end
-- ==== Proof.Ring.Steps.lean ====
/-
The steps of the body that concern other devices: the signals, the wait on the barrier, and the start, the arrival and
the departure of a copy.
-/
module

public import proofs.«01_k».proof.Proof.Ring.Schedule

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p`, and then `Q` holds. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → Vec F S256x4096 .bf16) (K : Dev nD × Slot → ℕ)

/-- Every cell of the protocol follows the schedule, and its round 0 has begun. -/
def records : sProp 𝕄 :=
  bigSep Finset.univ fun ck : Dev nD × Slot =>
    iprop(cellInv ER (plan X) (K ck) (cell ck.1 ck.2) ∗ reached ER (cell ck.1 ck.2) 0)

/-- What every step may use: the cells' records, and the levels. -/
def common : sProp 𝕄 := iprop(records X K ∗ levels)

instance : Persistent (records X K) := by unfold records; infer_instance
instance : Persistent (common X K) := by unfold common; infer_instance

omit [FloatOps F] in
theorem records_at (c : Dev nD) (k : Slot) :
    records X K ⊢ iprop(cellInv ER (plan X) (K (c, k)) (cell c k) ∗ reached ER (cell c k) 0) :=
  bigSep_elim (Finset.mem_univ (c, k))
omit [FloatOps F] in
theorem common_inv (c : Dev nD) (k : Slot) : common X K ⊢ cellInv ER (plan X) (K (c, k)) (cell c k) := by
  unfold common
  iintro ⟨H, -⟩
  ihave H := (records_at X K c k) $$ H
  icases H with ⟨H, -⟩
  iexact H
omit [FloatOps F] in
theorem common_reached (c : Dev nD) (k : Slot) : common X K ⊢ (reached ER (cell c k) 0 : sProp 𝕄) := by
  unfold common
  iintro ⟨H, -⟩
  ihave H := (records_at X K c k) $$ H
  icases H with ⟨-, H⟩
  iexact H
omit [FloatOps F] in
theorem common_levels : common X K ⊢ levels (F := F) := by
  unfold common
  iintro ⟨-, H⟩
  iexact H

omit [FloatOps F] in
theorem common_mayWait_recv (c : Dev nD) (l : Leg) (S : Finset Leg) (hS : ∀ l' ∈ S, l.2.1 < l'.2.1) :
    common X K ⊢ MayWait (c : Thread nD τ) (copySem (true, l)) () (owedFor c S) :=
  BIBase.Entails.trans (@common_levels F X K) (mayWait_recv c l S hS)
omit [FloatOps F] in
theorem common_mayWait_bar (c : Dev nD) :
    common X K ⊢ MayWait (c : Thread nD τ) barSem () (owedFor c legSet) :=
  BIBase.Entails.trans (@common_levels F X K) (mayWait_bar c)

/-- Device `c` owes `O`, whatever it has waited for. -/
def owing (c : Dev nD) (O : CellTallies nD τ sig Unit) : sProp 𝕄 := iprop(∃ W, owes (c : Thread nD τ) O W)

/-- A cell of device `c` that has not been waited for, and its credit. -/
def fresh (c : Dev nD) (k : Slot) : sProp 𝕄 := atPos ER (cell c k) 0 ∅ 0
def awaiting (c : Dev nD) (k : Slot) (n : ℕ) : sProp 𝕄 := iprop(fresh (F := F) c k ∗ cred (tallyAt (cell c k) () n))
/-- A cell of device `c` that is done with. -/
def closed (c : Dev nD) (k : Slot) : sProp 𝕄 := semVal (cell c k) 0

/-- What device `c` needs for its copy `l`, apart from the source: the target, and the right to credit its two cells. -/
def startable (c : Dev nD) (l : Leg) : sProp 𝕄 :=
  iprop(room (F := F) c l ∗ dutyTok ER (sendCell c l) 0 false ∗ dutyTok ER (recvCell (next l.1 c) l) 0 false
    ∗ fresh c (.inr (false, l)))
/-- What is left to device `c` of its copy `l` while it is on its way. -/
def departing (c : Dev nD) (l : Leg) : sProp 𝕄 := awaiting (F := F) c (.inr (false, l)) N
/-- What device `c` needs to wait for the arrival of copy `l`. -/
def arriving (c : Dev nD) (l : Leg) : sProp 𝕄 := awaiting (F := F) c (.inr (true, l)) N

omit [FloatOps F] in
/-- A waited-for cell is closed. -/
theorem close (c : Dev nD) (k : Slot) :
    iprop(common X K ∗ atPos ER (cell c k) (0 + 1) ∅ 0) ⊢ iprop(|={Set.univ}=> closed c k) := by
  iintro ⟨#HC, Hat⟩
  unfold closed
  iapply (Rounds.cell_close ER (plan X) (Set.mem_univ (K (c, k))) (fun h => h) (R := 0 + 1) (duties_later X _))
  isplitr; · iapply (common_inv X K c k); iexact HC
  iexact Hat

omit [FloatOps F] in
/-- So is one that no copy uses. -/
theorem close_unused (c : Dev nD) (b : Bool) (l : Leg) (hl : ¬ used l) :
    iprop(common X K ∗ fresh c (.inr (b, l))) ⊢ iprop(|={Set.univ}=> closed c (.inr (b, l))) := by
  iintro ⟨#HC, Hat⟩
  unfold closed fresh
  iapply (Rounds.cell_close ER (plan X) (Set.mem_univ (K (c, .inr (b, l)))) (fun h => h) (R := 0) (duties_unused X c l b hl))
  isplitr; · iapply (common_inv X K c _); iexact HC
  iexact Hat

/-- The start of a copy. -/
theorem run_start (c : Dev nD) (l : Leg) (hl : used l) (S : Finset Leg) (hS : l ∈ S) (Q : PUnit → sProp 𝕄) :
    iprop(common X K ∗ lent X c l ∗ startable c l ∗ owing c (owedFor c S))
      ⊢ iprop(((departing c l ∗ owing c (owedFor c (S.erase l))) -∗ Q ⟨⟩) -∗ runs c (start (next l.1 c) l) Q) := by
  unfold startable room owing departing awaiting lent held piece
  iintro ⟨#HC, Hsrc, ⟨⟨%fd, Hdst⟩, HtS, HtR, Hat⟩, ⟨%W, HO⟩⟩ Hk
  unfold start Prog.lift
  iapply (Rounds.wp_send_pointsTo 𝒱₀ ER (plan X) (c : Thread nD τ) none (κ₁ := K (c, .inr (false, l)))
      (κ₂ := K (next l.1 c, .inr (true, l))) (c' := (next l.1 c : Thread nD τ)) (src := src l) (dst := dst l)
      (sS := .dma (sendSem l)) (sem := .dma (recvSem l)) (q := lentShare l) (fs := gathered X c) (fd := fd)
      (r₁ := 0) (r₂ := 0) (d₁ := false) (d₂ := false)
      (duty_mem X c l false hl) (duty_mem X (next l.1 c) l true hl)
      () () N rfl (amount_copy X c l false false) (amount_copy X (next l.1 c) l true false)
      (owedFor c (S.erase l)) (owedFor_erase c hS) (W := W)
      (Entails.of_eq (payload_send X c l false).symm)
      (Entails.of_eq ((pointsTo_congr (landed X l c fd)).trans (payload_recv X (next l.1 c) l false).symm)))
    $$ [Hsrc Hdst HO HtS HtR]
  · isplitr; · iapply (common_inv X K c (.inr (false, l))); iexact HC
    isplitr; · iapply (common_inv X K (next l.1 c) (.inr (true, l))); iexact HC
    isplitl [Hsrc]; · iexact Hsrc
    isplitl [Hdst]; · iexact Hdst
    isplitl [HO]; · iexact HO
    isplitl [HtS]; · iexact HtS
    isplitr; · iapply (common_reached X K c (.inr (false, l))); iexact HC
    isplitl [HtR]; · iexact HtR
    iapply (common_reached X K (next l.1 c) (.inr (true, l))); iexact HC
  iintro ⟨Hc, HO⟩
  rw [wp_ret]; imodintro
  iapply Hk
  isplitl [Hat Hc]
  · isplitl [Hat]; · iexact Hat
    iexact Hc
  iexists W; iexact HO

/-- The wait for a cell that a copy credits: its payload comes with it, and the cell is closed. -/
theorem run_wait (c : Dev nD) (b : Bool) (l : Leg) (hl : used l) (O : CellTallies nD τ sig Unit)
    {from' to' : Memref sig .tc .vmem S128x4096 .bf16} {hsrc : from'.view.WordExact} {hdst : to'.view.WordExact}
    (hN : to'.view.dmaCredit = N) (Q : PUnit → sProp 𝕄) :
    iprop(common X K ∗ awaiting c (.inr (b, l)) N ∗ MayWait (c : Thread nD τ) (copySem (b, l)) () O ∗ owing c O)
      ⊢ iprop((((plan X).payload (cell c (.inr (b, l))) 0 false ∗ closed c (.inr (b, l)) ∗ owing c O) -∗ Q ⟨⟩)
        -∗ runs c (Prog.lift (.waitDma2 (match b with | false => sendSem l | true => recvSem l) from' to' hsrc hdst)) Q) := by
  unfold awaiting owing fresh
  iintro ⟨#HC, ⟨Hat, Hc⟩, HM, ⟨%W, HO⟩⟩ Hk
  unfold Prog.lift
  iapply (Rounds.wp_wait_rest_token 𝒱₀ ER (plan X) (c : Thread nD τ) none (κ := K (c, .inr (b, l)))
      (wpE_waitDma2_eq 𝒱₀ (c : Thread nD τ) none Set.univ) (Set.mem_univ _) () (O := O) (W := W) (R := 0) (m := 0) (T := ∅)
      (by rw [Nat.zero_add, hN]; exact (expect_copy X c l b hl).symm)) $$ [Hc HO HM Hat]
  · isplitr; · iapply (common_inv X K c (.inr (b, l))); iexact HC
    isplitl [Hc]; · rw [hN]; iexact Hc
    isplitl [HO]; · iexact HO
    isplitl [HM]; · iexact HM
    iexact Hat
  iintro ⟨HO, Hat, -, Hpay⟩
  rw [wp_ret]
  imod (close X K c (.inr (b, l))) $$ [Hat] with Hcl
  · isplitr; · iexact HC
    iexact Hat
  imodintro
  iapply Hk
  isplitl [Hpay]
  · iapply (Entails.of_eq (rest_copy X c l b hl)); iexact Hpay
  isplitl [Hcl]; · iexact Hcl
  iexists _; iexact HO

/-- The arrival of a copy, all copies up to its hop having been started. -/
theorem run_arrive (c : Dev nD) (l : Leg) (hl : used l) (S : Finset Leg) (hS : ∀ l' ∈ S, l.2.1 < l'.2.1)
    (Q : PUnit → sProp 𝕄) :
    iprop(common X K ∗ arriving c l ∗ owing c (owedFor c S))
      ⊢ iprop(((arrived X c l ∗ closed c (.inr (true, l)) ∗ owing c (owedFor c S)) -∗ Q ⟨⟩) -∗ runs c (arrive l) Q) := by
  iintro ⟨#HC, Hw, HO⟩ Hk
  unfold arrive arriving
  iapply (run_wait X K c true l hl (owedFor c S) (from' := src l) (to' := dst l)
      (hsrc := half_exact (srcSlot l.1 l.2.1) l.2.2) (hdst := half_exact (dstSlot l.1 l.2.1) l.2.2) rfl Q) $$ [Hw HO]
  · isplitr; · iexact HC
    isplitl [Hw]; · iexact Hw
    isplitr
    · iapply (common_mayWait_recv X K c l S hS); iexact HC
    iexact HO
  rw [payload_recv]
  iexact Hk

/-- The departure of a copy, all copies having been started. -/
theorem run_depart (c : Dev nD) (l : Leg) (hl : used l) (Q : PUnit → sProp 𝕄) :
    iprop(common X K ∗ departing c l ∗ owing c 0)
      ⊢ iprop(((lent X c l ∗ closed c (.inr (false, l)) ∗ owing c 0) -∗ Q ⟨⟩) -∗ runs c (depart l) Q) := by
  iintro ⟨#HC, Hw, HO⟩ Hk
  unfold depart departing
  iapply (run_wait X K c false l hl 0 (from' := dst l) (to' := src l)
      (hsrc := half_exact (dstSlot l.1 l.2.1) l.2.2) (hdst := half_exact (srcSlot l.1 l.2.1) l.2.2) rfl Q) $$ [Hw HO]
  · isplitr; · iexact HC
    isplitl [Hw]; · iexact Hw
    isplitr
    · rw [MayWait_zero]; iempintro
    iexact HO
  rw [payload_send]
  iexact Hk

/-- The two signals: each neighbour is given the pieces it is to write. -/
theorem run_greet (c : Dev nD) (Q : PUnit → sProp 𝕄) :
    iprop(common X K ∗ welcome (next false c) true ∗ welcome (next true c) false
        ∗ dutyTok ER (barCell (next false c)) 0 true ∗ dutyTok ER (barCell (next true c)) 0 false ∗ owing c (owedAll c))
      ⊢ iprop((owing c (owedFor c legSet) -∗ Q ⟨⟩) -∗ runs c (greet (next false c) (next true c)) Q) := by
  unfold owing
  iintro ⟨#HC, Hl, Hr, Htl, Htr, ⟨%W, HO⟩⟩ Hk
  unfold greet semSignalWord
  simp only [Prog.bind_op, Prog.bind_ret]
  iapply (Rounds.wp_signal 𝒱₀ ER (plan X) (c : Thread nD τ) none (dst := (next false c : Thread nD τ))
      (κ := K (next false c, .inl ())) (d := true) (by rw [duties_bar]; exact Finset.mem_univ _)
      ((amount_bar X (next false c) true).trans (by decide)) () (owedGreet c) rfl) $$ [HO Htl Hl]
  · isplitr; · iapply (common_inv X K (next false c) (.inl ())); iexact HC
    isplitl [HO]; · iexact HO
    isplitl [Htl]; · iexact Htl
    isplitl [Hl]; · rw [payload_bar]; iexact Hl
    iapply (common_reached X K (next false c) (.inl ())); iexact HC
  iintro HO
  iapply (Rounds.wp_signal 𝒱₀ ER (plan X) (c : Thread nD τ) none (dst := (next true c : Thread nD τ))
      (κ := K (next true c, .inl ())) (d := false) (by rw [duties_bar]; exact Finset.mem_univ _)
      ((amount_bar X (next true c) false).trans (by decide)) () (owedFor c legSet) rfl) $$ [HO Htr Hr]
  · isplitr; · iapply (common_inv X K (next true c) (.inl ())); iexact HC
    isplitl [HO]; · iexact HO
    isplitl [Htr]; · iexact Htr
    isplitl [Hr]; · rw [payload_bar]; iexact Hr
    iapply (common_reached X K (next true c) (.inl ())); iexact HC
  iintro HO
  rw [wp_ret]; imodintro
  iapply Hk
  iexists W; iexact HO

/-- The wait for both neighbours: it brings the pieces of theirs that this device is to write. -/
theorem run_hear (c : Dev nD) (Q : PUnit → sProp 𝕄) :
    iprop(common X K ∗ awaiting c (.inl ()) 2 ∗ owing c (owedFor c legSet))
      ⊢ iprop(((welcome (F := F) c false ∗ welcome (F := F) c true ∗ closed c (.inl ()) ∗ owing c (owedFor c legSet)) -∗ Q ⟨⟩)
        -∗ runs c (semWaitWord barrier0 2#32) Q) := by
  unfold awaiting owing fresh
  iintro ⟨#HC, ⟨Hat, Hc⟩, ⟨%W, HO⟩⟩ Hk
  unfold semWaitWord
  iapply (Rounds.wp_wait_rest_token 𝒱₀ ER (plan X) (c : Thread nD τ) none (κ := K (c, .inl ()))
      (wpE_semWait_eq 𝒱₀ (c : Thread nD τ) none Set.univ) (Set.mem_univ _) () (O := owedFor c legSet) (W := W)
      (R := 0) (m := 0) (T := ∅) (by rw [expect_bar X c]; decide)) $$ [Hc HO Hat]
  · isplitr; · iapply (common_inv X K c (.inl ())); iexact HC
    isplitl [Hc]; · iexact Hc
    isplitl [HO]; · iexact HO
    isplitr
    · iapply (common_mayWait_bar X K c); iexact HC
    iexact Hat
  iintro ⟨HO, Hat, -, Hpay⟩
  rw [wp_ret]
  imod (close X K c (.inl ())) $$ [Hat] with Hcl
  · isplitr; · iexact HC
    iexact Hat
  imodintro
  ihave Hpay := (Entails.of_eq (rest_bar X c)) $$ Hpay
  icases Hpay with ⟨Hf, Ht⟩
  iapply Hk
  isplitl [Hf]; · iexact Hf
  isplitl [Ht]; · iexact Ht
  isplitl [Hcl]; · iexact Hcl
  iexists _; iexact HO

end Cert.AllGather

end
-- ==== Proof.Ring.Local.lean ====
/-
The steps of the body that stay on the device: the copies of its own rows and columns, and the products.
-/
module

public import proofs.«01_k».proof.Proof.Ring.Steps

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The windows' copies of the rows, of the columns and of the result. -/
abbrev rowsM : Memref sig .tc .vmem S256x4096 .bf16 := Memref.whole cc0_stg0_0
abbrev colsM : Memref sig .tc .vmem S4096x128 .bf16 := Memref.whole cc0_stg1_0
abbrev outM : Memref sig .tc .vmem S4096x128 .f32 := Memref.whole cc0_stg2_0

variable (X : Dev nD → Vec F S256x4096 .bf16) (W : Dev nD → Vec F S4096x128 .bf16)

/-- A window's copy of the rows, one of the columns, and the body's own copy of the columns. -/
def rowsHeld (c : Dev nD) : sProp 𝕄 :=
  ((c : Thread nD τ).loc cc0_stg0_0) ↦{fullShare} (X c : (cc0_stg0_0 : Ref sig .tc).ty.Contents (Elt F))
def colsHeld (c : Dev nD) : sProp 𝕄 :=
  ((c : Thread nD τ).loc cc0_stg1_0) ↦{fullShare} (W c : (cc0_stg1_0 : Ref sig .tc).ty.Contents (Elt F))
def ownHeld (c : Dev nD) : sProp 𝕄 :=
  ((c : Thread nD τ).loc cc0_scratch1) ↦{fullShare} (W c : (cc0_scratch1 : Ref sig .tc).ty.Contents (Elt F))
/-- The result, the bands of the slots `T` stored. -/
def outDone (c : Dev nD) (T : Finset (Fin 16)) : sProp 𝕄 :=
  iprop(∃ f : Buf (Elt F) ((c : Thread nD τ).loc cc0_stg2_0), ⌜Done X W c T f⌝ ∗ ((c : Thread nD τ).loc cc0_stg2_0) ↦{fullShare} f)

theorem zeros : (![0, 0] : Fin 2 → Nat) = fun _ => 0 := funext fun a => by fin_cases a <;> rfl

/-- A half of the device's own rows is put into slot 0. -/
theorem run_fillHalf (c : Dev nD) (j : Fin 2) (f : Buf (Elt F) (gath c)) (Q : PUnit → sProp 𝕄) :
    iprop(rowsHeld X c ∗ held c 0 j fullShare f)
      ⊢ iprop(((rowsHeld X c ∗ held c 0 j fullShare (gathered X c)) -∗ Q ⟨⟩) -∗ runs c (fillHalf rowsM j) Q) := by
  have hset : (xg.access (halfRect 0 j)).set = piece 0 j := (View.set_slice_whole _ _).trans (piece_eq 0 j).symm
  have hget := filled X c j f (rowsM.view.readAt (Elt F) (rowsRect j).toLoadRect (X c)) (fun _ => rfl)
  unfold rowsHeld held
  iintro ⟨Hx, Hp⟩ Hk
  unfold fillHalf Prog.lift
  simp only [Prog.bind_op, Prog.bind_ret]
  iapply (wp_load 𝒱₀ (c : Thread nD τ) none Set.univ (m := rowsM) (Finset.subset_univ _)) $$ Hx; iintro Hx
  iapply (wp_load_rect 𝒱₀ (c : Thread nD τ) none Set.univ (m := xg) (r := halfRect 0 j) (S := piece 0 j) hset.subset) $$ Hp; iintro Hp
  iapply (wp_store 𝒱₀ (c : Thread nD τ) none Set.univ (m := xg) (r := halfRect 0 j) (Mk := Finset.univ) (S := piece 0 j)
    (by rw [View.setOn_univ]; exact hset.subset)) $$ Hp; iintro Hp
  rw [wp_ret]; imodintro
  iapply Hk
  isplitl [Hx]; · iexact Hx
  iapply (Entails.of_eq (pointsTo_congr hget)); iexact Hp

/-- The device's own columns are copied. -/
theorem run_fillCols (c : Dev nD) (f : Buf (Elt F) ((c : Thread nD τ).loc cc0_scratch1)) (Q : PUnit → sProp 𝕄) :
    iprop(colsHeld W c ∗ (((c : Thread nD τ).loc cc0_scratch1) ↦{fullShare} f))
      ⊢ iprop(((colsHeld W c ∗ ownHeld W c) -∗ Q ⟨⟩) -∗ runs c (fillCols colsM) Q) := by
  have hr : (colsM.view.readAt (Elt F) colsRect.toLoadRect (W c) : Vec F S4096x128 .bf16) = W c :=
    Memref.readAt_unit_zero (Elt F) cc0_stg1_0 zeros _ _
  have hw : ((wb.access colsRect).write (Elt F) f (ownCols (W c)) Finset.univ) = W c := by
    refine (Memref.write_access_unit_zero_univ (Elt F) cc0_scratch1 zeros _ f _).trans ?_
    unfold ownCols; rw [shapeCast_self, shapeCast_self]
  unfold colsHeld ownHeld
  iintro ⟨Hx, Hp⟩ Hk
  unfold fillCols Prog.lift
  simp only [Prog.bind_op, Prog.bind_ret]
  iapply (wp_load 𝒱₀ (c : Thread nD τ) none Set.univ (m := colsM) (Finset.subset_univ _)) $$ Hx; iintro Hx
  rw [hr]
  iapply (wp_load 𝒱₀ (c : Thread nD τ) none Set.univ (m := wb) (Finset.subset_univ _)) $$ Hp; iintro Hp
  iapply (wp_store 𝒱₀ (c : Thread nD τ) none Set.univ (m := wb) (r := colsRect) (Mk := Finset.univ) (Finset.subset_univ _)) $$ Hp
  iintro Hp
  rw [hw, wp_ret]; imodintro
  iapply Hk
  isplitl [Hx]; · iexact Hx
  iexact Hp

/-- The product of a slot that is all there, at any share. -/
theorem run_multiply (c : Dev nD) (s : Fin 16) (q : PosShare TreeShare) (T : Finset (Fin 16)) (Q : PUnit → sProp 𝕄) :
    iprop(held c s 0 q (gathered X c) ∗ held c s 1 q (gathered X c) ∗ ownHeld W c ∗ outDone X W c T)
      ⊢ iprop(((held c s 0 q (gathered X c) ∗ held c s 1 q (gathered X c) ∗ ownHeld W c ∗ outDone X W c (insert s T)) -∗ Q ⟨⟩)
        -∗ runs c (multiply outM c s) Q) := by
  have hset : xg.view.setOn (slotRect s).toLoadRect.set ⊆ piece s 0 ∪ piece s 1 := by
    rw [← slot_set]
    exact ((View.set_slice xg.view (slotRect s)).symm.trans (View.set_slice_whole _ _)).subset
  have hsplit : (gath c ↦[piece s 0 ∪ piece s 1]{q} (gathered X c) : sProp 𝕄)
      ⊣⊢ iprop(held c s 0 q (gathered X c) ∗ held c s 1 q (gathered X c)) :=
    pointsTo_union (piece_disjoint (by simp))
  have hr : (wb.view.readAt (Elt F) colsRect.toLoadRect (W c) : Vec F S4096x128 .bf16) = W c :=
    Memref.readAt_unit_zero (Elt F) cc0_scratch1 zeros _ _
  have hb : band (xg.view.readAt (Elt F) (slotRect s).toLoadRect (gathered X c)) (W c) = act (X (origin c s)) (W c) := by
    rw [band_eq, read_slot]
  unfold ownHeld outDone
  iintro ⟨H0, H1, Hw, ⟨%f, %hf, Ho⟩⟩ Hk
  ihave Hs := hsplit.2 $$ [H0 H1]
  · isplitl [H0]; · iexact H0
    iexact H1
  unfold multiply Prog.lift
  simp only [Prog.bind_op, Prog.bind_ret]
  iapply (wp_load 𝒱₀ (c : Thread nD τ) none Set.univ (m := xg) (S := piece s 0 ∪ piece s 1) hset) $$ Hs; iintro Hs
  iapply (wp_load 𝒱₀ (c : Thread nD τ) none Set.univ (m := wb) (Finset.subset_univ _)) $$ Hw; iintro Hw
  rw [hr, hb]
  iapply (wp_load 𝒱₀ (c : Thread nD τ) none Set.univ (m := outM) (Finset.subset_univ _)) $$ Ho; iintro Ho
  iapply (wp_store 𝒱₀ (c : Thread nD τ) none Set.univ (m := outM) (r := bandRect c s) (Mk := Finset.univ) (Finset.subset_univ _)) $$ Ho
  iintro Ho
  rw [wp_ret]; imodintro
  ihave Hs := hsplit.1 $$ Hs
  icases Hs with ⟨H0, H1⟩
  iapply Hk
  isplitl [H0]; · iexact H0
  isplitl [H1]; · iexact H1
  isplitl [Hw]; · iexact Hw
  iexists _
  isplitr; · ipureintro; exact done_insert hf s
  iexact Ho

end Cert.AllGather

end
-- ==== Proof.Ring.Hop.lean ====
/-
A hop of the ring: each half that arrives is sent on and used for the product at the same time. The copy that carries
it on reads with one share of it; the product reads with the other.
-/
module

public import proofs.«01_k».proof.Proof.Ring.Local

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Copies by hops -/

/-- The four copies of a hop, and the two of the last one. -/
def row (h : Fin 8) (Φ : Leg → sProp 𝕄) : sProp 𝕄 :=
  iprop(Φ (true, h, 0) ∗ Φ (false, h, 0) ∗ Φ (true, h, 1) ∗ Φ (false, h, 1))
def lastRow (Φ : Leg → sProp 𝕄) : sProp 𝕄 := iprop(Φ (true, 7, 0) ∗ Φ (false, 7, 1))

omit [FloatOps F] in
theorem sep_regroup (P Q R : sProp 𝕄) : iprop((P ∗ Q) ∗ R) = iprop(P ∗ Q ∗ R) := equiv_iff.mp ⟨BI.sep_assoc, BI.sep_assoc'⟩

omit [FloatOps F] in
theorem legs_eq : legSet = legs.toFinset := by decide
omit [FloatOps F] in
theorem legs_nodup : legs.Nodup := by decide
omit [FloatOps F] in
theorem used_of_mem : ∀ l ∈ legs, used l := by decide

omit [FloatOps F] in
theorem rows_eq (Φ : Leg → sProp 𝕄) :
    bigSep legSet Φ = iprop(row 0 Φ ∗ row 1 Φ ∗ row 2 Φ ∗ row 3 Φ ∗ row 4 Φ ∗ row 5 Φ ∗ row 6 Φ ∗ lastRow Φ) := by
  rw [bigSep_eq_bigSepL_of_eq legs legs_eq legs_nodup]
  unfold row lastRow
  simp only [sep_regroup]
  rfl

/-- The copies from a hop on. -/
def later (n : ℕ) : Finset Leg := legSet.filter fun l => n ≤ l.2.1.val

theorem later_zero : later 0 = legSet := by decide
theorem later_last : ((later 7).erase (true, 7, 0)).erase (false, 7, 1) = ∅ := by decide
theorem later_erase (h : Fin 8) (hh : h.val < 7) :
    ((((later h.val).erase (true, h, 0)).erase (false, h, 0)).erase (true, h, 1)).erase (false, h, 1) = later (h.val + 1) := by
  revert h; decide
theorem mem_later (d : Bool) (h : Fin 8) (j : Fin 2) (hl : used (d, h, j)) : (d, h, j) ∈ later h.val := by
  unfold later legSet
  exact Finset.mem_filter.mpr ⟨Finset.mem_filter.mpr ⟨Finset.mem_univ _, hl⟩, le_rfl⟩
theorem used_of_lt (d : Bool) (h : Fin 8) (j : Fin 2) (hh : h.val < 7) : used (d, h, j) := by
  intro h'; have : h.val = 7 := congrArg Fin.val h'; omega
theorem src_next (d : Bool) (h h' : Fin 8) (hh : h'.val = h.val + 1) : srcSlot d h' = dstSlot d h := by
  obtain ⟨h', hl⟩ := h'
  subst hh
  cases d
  · apply Fin.ext; show (16 - (h.val + 1)) % 16 = 15 - h.val; omega
  · rfl

variable (X : Dev nD → Vec F S256x4096 .bf16) (W : Dev nD → Vec F S4096x128 .bf16) (K : Dev nD × Slot → ℕ)

/-- The two shares of a piece that has arrived. -/
def kept (c : Dev nD) (l : Leg) : sProp 𝕄 := held c (dstSlot l.1 l.2.1) l.2.2 fullShare.right (gathered X c)
def spare (c : Dev nD) (l : Leg) : sProp 𝕄 := held c (dstSlot l.1 l.2.1) l.2.2 fullShare.left (gathered X c)

/-- What is left of a copy that has arrived, and of one that has left. -/
def got (c : Dev nD) (l : Leg) : sProp 𝕄 := iprop(kept X c l ∗ closed c (.inr (true, l)))
def back (c : Dev nD) (l : Leg) : sProp 𝕄 := iprop(lent X c l ∗ closed c (.inr (false, l)))

omit [FloatOps F] in
/-- The share that a later copy takes along is the spare one of the piece it reads. -/
theorem lent_eq (c : Dev nD) (d : Bool) (j : Fin 2) (h h' : Fin 8) (hh : h'.val = h.val + 1) :
    lent X c (d, h', j) = spare X c (d, h, j) := by
  unfold lent spare
  rw [show lentShare (d, h', j) = fullShare.left from if_neg fun e => by
    have : h'.val = 0 := congrArg Fin.val e
    omega]
  dsimp only
  rw [src_next d h h' hh]

omit [FloatOps F] in
/-- A piece is its two shares. -/
theorem arrived_eq (c : Dev nD) (l : Leg) : arrived X c l ⊣⊢ iprop(spare X c l ∗ kept X c l) := by
  unfold arrived spare kept held
  exact pointsTo_share (PosShare.mem_left_op_right fullShare)

/-- The arrival of a copy, split in its shares. -/
theorem run_receive (c : Dev nD) (l : Leg) (hl : used l) (S : Finset Leg) (hS : S ⊆ later (l.2.1.val + 1))
    (Q : PUnit → sProp 𝕄) :
    iprop(common X K ∗ arriving c l ∗ owing c (owedFor c S))
      ⊢ iprop(((got X c l ∗ spare X c l ∗ owing c (owedFor c S)) -∗ Q ⟨⟩) -∗ runs c (arrive l) Q) := by
  iintro ⟨#HC, Ha, HO⟩ Hk
  iapply (run_arrive X K c l hl S (fun l' h' => by
    have h := (Finset.mem_filter.mp (hS h')).2
    exact (by omega : l.2.1.val < l'.2.1.val)) Q) $$ [Ha HO]
  · isplitr; · iexact HC
    isplitl [Ha]; · iexact Ha
    iexact HO
  iintro ⟨Hp, Hcl, HO⟩
  ihave Hp := (arrived_eq X c l).1 $$ Hp
  icases Hp with ⟨Hs, Hkp⟩
  iapply Hk
  unfold got
  isplitl [Hkp Hcl]
  · isplitl [Hkp]; · iexact Hkp
    iexact Hcl
  isplitl [Hs]; · iexact Hs
  iexact HO

/-- A half is waited for and sent on. -/
theorem run_relay (c : Dev nD) (d : Bool) (j : Fin 2) (h h' : Fin 8) (hh : h'.val = h.val + 1) (hl : used (d, h', j))
    (S : Finset Leg) (hm : (d, h', j) ∈ S) (hS : S ⊆ later h'.val) (Q : PUnit → sProp 𝕄) :
    iprop(common X K ∗ arriving c (d, h, j) ∗ startable c (d, h', j) ∗ owing c (owedFor c S))
      ⊢ iprop(((got X c (d, h, j) ∗ departing c (d, h', j) ∗ owing c (owedFor c (S.erase (d, h', j)))) -∗ Q ⟨⟩)
        -∗ runs c (relay (fun l => next l.1 c) d j h h') Q) := by
  iintro ⟨#HC, Ha, Hs, HO⟩ Hk
  unfold relay
  rw [runs, wp_bind]
  iapply (run_receive X K c (d, h, j) (used_of_lt d h j (by omega)) S (by rw [hh] at hS; exact hS)) $$ [Ha HO]
  · isplitr; · iexact HC
    isplitl [Ha]; · iexact Ha
    iexact HO
  iintro ⟨Hg, Hsp, HO⟩
  iapply (run_start X K c (d, h', j) hl S hm Q) $$ [Hs Hsp HO]
  · isplitr; · iexact HC
    isplitl [Hsp]; · rw [lent_eq X c d j h h' hh]; iexact Hsp
    isplitl [Hs]; · iexact Hs
    iexact HO
  iintro ⟨Hd, HO⟩
  iapply Hk
  isplitl [Hg]; · iexact Hg
  isplitl [Hd]; · iexact Hd
  iexact HO

/-- The product of a slot whose halves both came in one direction. -/
theorem run_multiply_got (c : Dev nD) (d : Bool) (h : Fin 8) (T : Finset (Fin 16)) (Q : PUnit → sProp 𝕄) :
    iprop(got X c (d, h, 0) ∗ got X c (d, h, 1) ∗ ownHeld W c ∗ outDone X W c T)
      ⊢ iprop(((got X c (d, h, 0) ∗ got X c (d, h, 1) ∗ ownHeld W c ∗ outDone X W c (insert (dstSlot d h) T)) -∗ Q ⟨⟩)
        -∗ runs c (multiply outM c (dstSlot d h)) Q) := by
  unfold got kept
  iintro ⟨⟨H0, C0⟩, ⟨H1, C1⟩, Hw, Ho⟩ Hk
  iapply (run_multiply X W c (dstSlot d h) fullShare.right T Q) $$ [H0 H1 Hw Ho]
  · isplitl [H0]; · iexact H0
    isplitl [H1]; · iexact H1
    isplitl [Hw]; · iexact Hw
    iexact Ho
  iintro ⟨H0, H1, Hw, Ho⟩
  iapply Hk
  isplitl [H0 C0]
  · isplitl [H0]; · iexact H0
    iexact C0
  isplitl [H1 C1]
  · isplitl [H1]; · iexact H1
    iexact C1
  isplitl [Hw]; · iexact Hw
  iexact Ho

/-- A whole hop. -/
theorem run_hop (c : Dev nD) (h h' : Fin 8) (hh : h'.val = h.val + 1) (h7 : h'.val < 7) (T : Finset (Fin 16))
    (Q : PUnit → sProp 𝕄) :
    iprop(common X K ∗ row h (arriving c) ∗ row h' (startable c) ∗ owing c (owedFor c (later h'.val)) ∗ ownHeld W c ∗ outDone X W c T)
      ⊢ iprop(((row h (got X c) ∗ row h' (departing c) ∗ owing c (owedFor c (later (h'.val + 1))) ∗ ownHeld W c
            ∗ outDone X W c (insert (dstSlot false h) (insert (dstSlot true h) T))) -∗ Q ⟨⟩)
        -∗ runs c (hop outM (fun l => next l.1 c) c h h') Q) := by
  have hu : ∀ d j, used (d, h', j) := fun d j => used_of_lt d h' j h7
  have hm : ∀ d j, (d, h', j) ∈ later h'.val := fun d j => mem_later d h' j (hu d j)
  have hm₂ : (false, h', 0) ∈ (later h'.val).erase (true, h', 0) := Finset.mem_erase.mpr ⟨by simp, hm _ _⟩
  have hm₃ : (true, h', 1) ∈ ((later h'.val).erase (true, h', 0)).erase (false, h', 0) :=
    Finset.mem_erase.mpr ⟨by simp, Finset.mem_erase.mpr ⟨by simp, hm _ _⟩⟩
  have hm₄ : (false, h', 1) ∈ (((later h'.val).erase (true, h', 0)).erase (false, h', 0)).erase (true, h', 1) :=
    Finset.mem_erase.mpr ⟨by simp, Finset.mem_erase.mpr ⟨by simp, Finset.mem_erase.mpr ⟨by simp, hm _ _⟩⟩⟩
  unfold row
  iintro ⟨#HC, ⟨A1, A2, A3, A4⟩, ⟨S1, S2, S3, S4⟩, HO, Hw, Ho⟩ Hk
  unfold hop
  rw [runs, wp_bind]
  iapply (run_relay X K c true 0 h h' hh (hu _ _) (later h'.val) (hm _ _) subset_rfl) $$ [A1 S1 HO]
  · isplitr; · iexact HC
    isplitl [A1]; · iexact A1
    isplitl [S1]; · iexact S1
    iexact HO
  iintro ⟨G1, D1, HO⟩
  rw [wp_bind]
  iapply (run_relay X K c false 0 h h' hh (hu _ _) _ hm₂ (Finset.erase_subset _ _)) $$ [A2 S2 HO]
  · isplitr; · iexact HC
    isplitl [A2]; · iexact A2
    isplitl [S2]; · iexact S2
    iexact HO
  iintro ⟨G2, D2, HO⟩
  rw [wp_bind]
  iapply (run_relay X K c true 1 h h' hh (hu _ _) _ hm₃
    ((Finset.erase_subset _ _).trans (Finset.erase_subset _ _))) $$ [A3 S3 HO]
  · isplitr; · iexact HC
    isplitl [A3]; · iexact A3
    isplitl [S3]; · iexact S3
    iexact HO
  iintro ⟨G3, D3, HO⟩
  rw [wp_bind]
  iapply (run_relay X K c false 1 h h' hh (hu _ _) _ hm₄
    ((Finset.erase_subset _ _).trans ((Finset.erase_subset _ _).trans (Finset.erase_subset _ _)))) $$ [A4 S4 HO]
  · isplitr; · iexact HC
    isplitl [A4]; · iexact A4
    isplitl [S4]; · iexact S4
    iexact HO
  iintro ⟨G4, D4, HO⟩
  rw [later_erase h' h7, wp_bind]
  iapply (run_multiply_got X W c true h T) $$ [G1 G3 Hw Ho]
  · isplitl [G1]; · iexact G1
    isplitl [G3]; · iexact G3
    isplitl [Hw]; · iexact Hw
    iexact Ho
  iintro ⟨G1, G3, Hw, Ho⟩
  iapply (run_multiply_got X W c false h _ Q) $$ [G2 G4 Hw Ho]
  · isplitl [G2]; · iexact G2
    isplitl [G4]; · iexact G4
    isplitl [Hw]; · iexact Hw
    iexact Ho
  iintro ⟨G2, G4, Hw, Ho⟩
  iapply Hk
  isplitl [G1 G2 G3 G4]
  · isplitl [G1]; · iexact G1
    isplitl [G2]; · iexact G2
    isplitl [G3]; · iexact G3
    iexact G4
  isplitl [D1 D2 D3 D4]
  · isplitl [D1]; · iexact D1
    isplitl [D2]; · iexact D2
    isplitl [D3]; · iexact D3
    iexact D4
  isplitl [HO]; · iexact HO
  isplitl [Hw]; · iexact Hw
  iexact Ho

/-- The departures of a list of copies. -/
theorem run_departAll (c : Dev nD) (ls : List Leg) (hn : ls.Nodup) (hu : ∀ l ∈ ls, used l) (Q : PUnit → sProp 𝕄) :
    iprop(common X K ∗ bigSep ls.toFinset (departing c) ∗ owing c 0)
      ⊢ iprop(((bigSep ls.toFinset (back X c) ∗ owing c 0) -∗ Q ⟨⟩) -∗ runs c (departAll ls) Q) := by
  induction ls with
  | nil =>
    have he : bigSep ∅ (departing (F := F) c) = bigSep ∅ (back X c) := bigSep_empty.trans bigSep_empty.symm
    rw [List.toFinset_nil, he]
    iintro ⟨#HC, Hd, HO⟩ Hk
    unfold departAll
    rw [runs, Prog.pure_eq_ret, wp_ret]
    imodintro
    iapply Hk
    isplitl [Hd]; · iexact Hd
    iexact HO
  | cons l ls ih =>
    have hl : l ∉ ls.toFinset := fun h => (List.nodup_cons.mp hn).1 (List.mem_toFinset.mp h)
    have h₁ : bigSep (insert l ls.toFinset) (departing (F := F) c)
        = iprop(departing c l ∗ bigSep ls.toFinset (departing c)) := bigSep_insert hl
    have h₂ : bigSep (insert l ls.toFinset) (back X c) = iprop(back X c l ∗ bigSep ls.toFinset (back X c)) := bigSep_insert hl
    rw [List.toFinset_cons, h₁, h₂]
    iintro ⟨#HC, ⟨Hl, Hd⟩, HO⟩ Hk
    unfold departAll
    rw [runs, wp_bind]
    iapply (run_depart X K c l (hu l List.mem_cons_self)) $$ [Hl HO]
    · isplitr; · iexact HC
      isplitl [Hl]; · iexact Hl
      iexact HO
    iintro ⟨Hln, Hcl, HO⟩
    iapply (ih (List.nodup_cons.mp hn).2 (fun l' h' => hu l' (List.mem_cons_of_mem _ h'))) $$ [Hd HO]
    · isplitr; · iexact HC
      isplitl [Hd]; · iexact Hd
      iexact HO
    iintro ⟨Hb, HO⟩
    iapply Hk
    isplitl [Hln Hcl Hb]
    · isplitl [Hln Hcl]
      · unfold back
        isplitl [Hln]; · iexact Hln
        iexact Hcl
      iexact Hb
    iexact HO

end Cert.AllGather

end
-- ==== Proof.Ring.Pieces.lean ====
/-
The gathered copy taken apart and put together again: the two halves of slot 0 are the device's own, every other half
is the target of exactly one copy of a neighbour.
-/
module

public import proofs.«01_k».proof.Proof.Ring.Hop

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- Where a copy writes, as a piece. -/
def target (l : Leg) : Fin 16 × Fin 2 := (dstSlot l.1 l.2.1, l.2.2)

theorem target_injOn : Set.InjOn target legSet := by
  have h : ∀ l ∈ legSet, ∀ l' ∈ legSet, target l = target l' → l = l' := by decide +kernel
  exact fun l hl l' hl' e => h l hl l' hl' e
theorem targets : (Finset.univ : Finset (Fin 16 × Fin 2)) = insert (0, 0) (insert (0, 1) (legSet.image target)) := by
  decide +kernel

theorem whole_eq (c : Dev nD) (f : Buf (Elt F) (gath c)) :
    (gath c ↦{fullShare} f : sProp 𝕄)
      = iprop(held c 0 0 fullShare f ∗ held c 0 1 fullShare f
          ∗ bigSep legSet fun l => held c (dstSlot l.1 l.2.1) l.2.2 fullShare f) := by
  have h₁ : (gath c ↦{fullShare} f : sProp 𝕄)
      = bigSep (Finset.univ : Finset (Fin 16 × Fin 2)) fun sj => held c sj.1 sj.2 fullShare f := by
    exact (congrArg (fun S : Finset (Idx (gath c)) => (gath c ↦[S]{fullShare} f : sProp 𝕄)) pieces_cover.symm).trans
      (pointsTo_biUnion (ℓ := gath c) (Finset.univ : Finset (Fin 16 × Fin 2)) (fun sj => piece sj.1 sj.2)
        fun t _ t' _ h => piece_disjoint h)
  have n₁ : ((0, 1) : Fin 16 × Fin 2) ∉ legSet.image target := by decide +kernel
  have n₀ : ((0, 0) : Fin 16 × Fin 2) ∉ insert (0, 1) (legSet.image target) := by decide +kernel
  have h₂ := bigSep_insert (Φ := fun sj : Fin 16 × Fin 2 => held (F := F) c sj.1 sj.2 fullShare f) n₀
  have h₃ := bigSep_insert (Φ := fun sj : Fin 16 × Fin 2 => held (F := F) c sj.1 sj.2 fullShare f) n₁
  rw [h₁, targets, h₂, h₃, bigSep_image_of_injOn target_injOn]
  rfl

theorem by_direction (Φ : Leg → sProp 𝕄) :
    bigSep legSet Φ = iprop(bigSep (legsOf true) Φ ∗ bigSep (legsOf false) Φ) := by
  have h := bigSep_filter_split legSet (fun l : Leg => l.1 = true) (Φ := Φ)
  rw [show (legSet.filter fun l : Leg => ¬ l.1 = true) = legsOf false from by decide] at h
  exact h

/-- The targets of a direction's copies are given to the neighbour that writes them. -/
theorem give (c : Dev nD) (d : Bool) (f : Buf (Elt F) (gath c)) :
    (bigSep (legsOf d) fun l => held (F := F) c (dstSlot l.1 l.2.1) l.2.2 fullShare f) ⊢ welcome (next (!d) c) d := by
  unfold welcome
  refine bigSep_mono fun l hl => ?_
  have hd : l.1 = d := (Finset.mem_filter.mp hl).2
  have hc : next l.1 (next (!d) c) = c := by rw [hd]; exact next_not_next d c
  have h : iprop(held (F := F) c (dstSlot l.1 l.2.1) l.2.2 fullShare f)
      ⊢ iprop(∃ f, held (F := F) c (dstSlot l.1 l.2.1) l.2.2 fullShare f) := by
    iintro H
    iexists f
    iexact H
  unfold room
  rw [hc]
  exact h

/-- The gathered copy, when the body begins. -/
theorem take_apart (c : Dev nD) (f : Buf (Elt F) (gath c)) :
    (gath c ↦{fullShare} f : sProp 𝕄)
      ⊢ iprop(held c 0 0 fullShare f ∗ held c 0 1 fullShare f ∗ welcome (next false c) true ∗ welcome (next true c) false) := by
  rw [whole_eq, by_direction]
  iintro ⟨H0, H1, Ht, Hf⟩
  isplitl [H0]; · iexact H0
  isplitl [H1]; · iexact H1
  isplitl [Ht]; · iapply (give c true f); iexact Ht
  iapply (give c false f); iexact Hf

/-- What device `c` has for its copy `l` before its neighbour is heard of. -/
def payable (c : Dev nD) (l : Leg) : sProp 𝕄 :=
  iprop(dutyTok ER (sendCell c l) 0 false ∗ dutyTok ER (recvCell (next l.1 c) l) 0 false ∗ fresh (F := F) c (.inr (false, l)))

/-- With the neighbours' pieces, every copy can be started. -/
theorem ready (c : Dev nD) :
    iprop(welcome (F := F) c false ∗ welcome c true ∗ bigSep legSet (payable c)) ⊢ bigSep legSet (startable (F := F) c) := by
  have h : bigSep legSet (startable (F := F) c) = iprop(bigSep legSet (room c) ∗ bigSep legSet (payable c)) :=
    bigSep_sep' legSet (room c) (payable c)
  rw [h, by_direction (room c)]
  unfold welcome
  iintro ⟨Hf, Ht, Hp⟩
  isplitl [Hf Ht]
  · isplitl [Ht]; · iexact Ht
    iexact Hf
  iexact Hp

variable (X : Dev nD → Vec F S256x4096 .bf16)

/-- A half of slot 0 is split in three: the shares the two copies of the first hop take along, and one for the product. -/
theorem own_shares (c : Dev nD) (j : Fin 2) :
    held c 0 j fullShare (gathered X c)
      ⊣⊢ iprop(lent X c (true, 0, j) ∗ lent X c (false, 0, j) ∗ held c 0 j fullShare.right.right (gathered X c)) := by
  have h₁ : lent X c (true, 0, j) = held c 0 j fullShare.left (gathered X c) := rfl
  have h₂ : lent X c (false, 0, j) = held c 0 j fullShare.right.left (gathered X c) := by
    unfold lent
    rw [show srcSlot (false, (0 : Fin 8), j).1 (false, (0 : Fin 8), j).2.1 = 0 from
      (by decide : srcSlot false 0 = 0)]
    rfl
  have e₁ := pointsTo_share (ℓ := gath c) (I := piece 0 j) (f := gathered X c) (Ix := Unit) (Name := ℕ) (U := UU) (Lvl := ℕ)
    (PosShare.mem_left_op_right fullShare)
  have e₂ := pointsTo_share (ℓ := gath c) (I := piece 0 j) (f := gathered X c) (Ix := Unit) (Name := ℕ) (U := UU) (Lvl := ℕ)
    (PosShare.mem_left_op_right fullShare.right)
  rw [h₁, h₂]
  unfold held
  constructor
  · iintro H
    ihave H := e₁.1 $$ H
    icases H with ⟨Hl, Hr⟩
    ihave H := e₂.1 $$ Hr
    icases H with ⟨Hm, Hr⟩
    isplitl [Hl]; · iexact Hl
    isplitl [Hm]; · iexact Hm
    iexact Hr
  · iintro ⟨Hl, Hm, Hr⟩
    iapply e₁.2
    isplitl [Hl]; · iexact Hl
    iapply e₂.2
    isplitl [Hm]; · iexact Hm
    iexact Hr

/-- The spare shares of a hop's pieces are those the next hop's copies take along. -/
theorem row_lent (c : Dev nD) (h h' : Fin 8) (hh : h'.val = h.val + 1) : row h' (lent X c) = row h (spare X c) := by
  unfold row
  rw [lent_eq X c true 0 h h' hh, lent_eq X c false 0 h h' hh, lent_eq X c true 1 h h' hh, lent_eq X c false 1 h h' hh]

/-- The gathered copy, when all has arrived and all has left. -/
theorem put_together (c : Dev nD) :
    iprop(held c 0 0 fullShare.right.right (gathered X c) ∗ held c 0 1 fullShare.right.right (gathered X c)
        ∗ bigSep legSet (kept X c) ∗ bigSep legSet (lent X c)
        ∗ spare X c (false, 6, 0) ∗ spare X c (true, 6, 1) ∗ spare X c (true, 7, 0) ∗ spare X c (false, 7, 1))
      ⊢ (gath c ↦{fullShare} (gathered X c) : sProp 𝕄) := by
  have hall : iprop(bigSep legSet (spare X c) ∗ bigSep legSet (kept X c)) ⊢ bigSep legSet (arrived X c) := by
    rw [← bigSep_sep' legSet (spare X c) (kept X c)]
    exact bigSep_mono fun l _ => (arrived_eq X c l).2
  have h0 : row 0 (lent X c)
    = iprop(lent X c (true, 0, 0) ∗ lent X c (false, 0, 0) ∗ lent X c (true, 0, 1) ∗ lent X c (false, 0, 1)) := rfl
  rw [rows_eq (lent X c), row_lent X c 0 1 rfl, row_lent X c 1 2 rfl, row_lent X c 2 3 rfl, row_lent X c 3 4 rfl,
    row_lent X c 4 5 rfl, row_lent X c 5 6 rfl, whole_eq]
  unfold lastRow
  rw [lent_eq X c true 0 6 7 rfl, lent_eq X c false 1 6 7 rfl]
  rw [h0]
  iintro ⟨H0, H1, Hk, ⟨R, R0, R1, R2, R3, R4, R5, Sa, Sd⟩, Sb, Sc, Se, Sf⟩
  icases R with ⟨La, Lb, Lc, Ld⟩
  isplitl [H0 La Lb]
  · iapply (own_shares X c 0).2
    isplitl [La]; · iexact La
    isplitl [Lb]; · iexact Lb
    iexact H0
  isplitl [H1 Lc Ld]
  · iapply (own_shares X c 1).2
    isplitl [Lc]; · iexact Lc
    isplitl [Ld]; · iexact Ld
    iexact H1
  iapply hall
  isplitr [Hk]
  · rw [rows_eq (spare X c)]
    isplitl [R0]; · iexact R0
    isplitl [R1]; · iexact R1
    isplitl [R2]; · iexact R2
    isplitl [R3]; · iexact R3
    isplitl [R4]; · iexact R4
    isplitl [R5]; · iexact R5
    unfold row lastRow
    isplitl [Sa Sb Sc Sd]
    · isplitl [Sa]; · iexact Sa
      isplitl [Sb]; · iexact Sb
      isplitl [Sc]; · iexact Sc
      iexact Sd
    isplitl [Se]; · iexact Se
    iexact Sf
  iexact Hk

/-- Every cell of the copies is closed: those of the copies made, and the two that are never used. -/
theorem close_all (K : Dev nD × Slot → ℕ) (c : Dev nD) (b : Bool) :
    iprop(common X K ∗ bigSep legSet (fun l => closed (F := F) c (.inr (b, l)))
        ∗ bigSep (Finset.univ.filter fun l => ¬ used l) (fun l => fresh (F := F) c (.inr (b, l))))
      ⊢ iprop(|={Set.univ}=> bigSep Finset.univ fun l : Leg => closed (F := F) c (.inr (b, l))) := by
  have hs : (bigSep Finset.univ fun l : Leg => closed (F := F) c (.inr (b, l)))
      = iprop((bigSep legSet fun l => closed (F := F) c (.inr (b, l)))
          ∗ bigSep (Finset.univ.filter fun l => ¬ used l) fun l => closed (F := F) c (.inr (b, l))) :=
    bigSep_filter_split Finset.univ used
  rw [hs]
  iintro ⟨#HC, Hu, Hn⟩
  have hc : iprop(common X K ∗ bigSep (Finset.univ.filter fun l => ¬ used l) (fun l => fresh (F := F) c (.inr (b, l))))
      ⊢ iprop(|={Set.univ}=> bigSep (Finset.univ.filter fun l => ¬ used l) (fun l => closed (F := F) c (.inr (b, l)))) :=
    (bigSep_with_persistent fun l hl => close_unused X K c b l (Finset.mem_filter.mp hl).2).trans (bigSep_fupd _ _)
  imod hc $$ [Hn] with Hn
  · isplitr; · iexact HC
    iexact Hn
  imodintro
  isplitl [Hu]; · iexact Hu
  iexact Hn

end Cert.AllGather

end
-- ==== Proof.Ring.Body.lean ====
/-
The body of the kernel, from what a device begins with to what it ends with.
-/
module

public import proofs.«01_k».proof.Proof.Ring.Pieces

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x128 .bf16) (K : Dev nD × Slot → ℕ)

/-- A buffer of the device, at whatever it holds. -/
def some' (c : Dev nD) (b : Ref sig .tc) : sProp 𝕄 :=
  iprop(∃ f : Buf (Elt F) ((c : Thread nD τ).loc b), ((c : Thread nD τ).loc b) ↦{fullShare} f)

/-- What a device begins with, of the protocol. -/
def begins (c : Dev nD) : sProp 𝕄 :=
  iprop(dutyTok ER (barCell (next false c)) 0 true ∗ dutyTok ER (barCell (next true c)) 0 false
    ∗ awaiting (F := F) c (.inl ()) 2 ∗ bigSep legSet (arriving (F := F) c) ∗ bigSep legSet (payable (F := F) c)
    ∗ bigSep (Finset.univ.filter fun l => ¬ used l) (fun l => fresh (F := F) c (.inr (false, l)))
    ∗ bigSep (Finset.univ.filter fun l => ¬ used l) (fun l => fresh (F := F) c (.inr (true, l))))

/-- What it ends with: every cell closed, the gathered copy and the columns in its own buffers. -/
def ends (c : Dev nD) : sProp 𝕄 :=
  iprop(closed (F := F) c (.inl ()) ∗ (bigSep Finset.univ fun l : Leg => closed (F := F) c (.inr (false, l)))
    ∗ (bigSep Finset.univ fun l : Leg => closed (F := F) c (.inr (true, l)))
    ∗ some' (F := F) c cc0_scratch0 ∗ some' (F := F) c cc0_scratch1)

/-- The result, complete. -/
def outHeld (c : Dev nD) : sProp 𝕄 := ((c : Thread nD τ).loc cc0_stg2_0) ↦{fullShare} (outAt X W c)

theorem outDone_none (c : Dev nD) : some' (F := F) c cc0_stg2_0 ⊢ outDone X W c ∅ := by
  unfold some' outDone
  iintro ⟨%f, H⟩
  iexists f
  isplitr; · ipureintro; exact done_empty X W c f
  iexact H
theorem outDone_all (c : Dev nD) : outDone X W c Finset.univ ⊢ outHeld X W c := by
  unfold outDone outHeld
  iintro ⟨%f, %hf, H⟩
  rw [← done_univ hf]
  iexact H

/-- The departures, and what they bring back. -/
theorem run_end (c : Dev nD) (Q : PUnit → sProp 𝕄) :
    iprop(common X K ∗ bigSep legSet (departing (F := F) c) ∗ owing c 0)
      ⊢ iprop(((bigSep legSet (lent X c) ∗ bigSep legSet (fun l => closed (F := F) c (.inr (false, l))) ∗ owing c 0) -∗ Q ⟨⟩)
        -∗ runs c (departAll legs) Q) := by
  have hb : bigSep legs.toFinset (back X c)
      = iprop(bigSep legSet (lent X c) ∗ bigSep legSet fun l => closed (F := F) c (.inr (false, l))) := by
    rw [← legs_eq]
    exact bigSep_sep' legSet (lent X c) fun l => closed (F := F) c (.inr (false, l))
  iintro ⟨#HC, Hd, HO⟩ Hk
  iapply (run_departAll X K c legs legs_nodup used_of_mem Q) $$ [Hd HO]
  · isplitr; · iexact HC
    isplitl [Hd]; · rw [← legs_eq]; iexact Hd
    iexact HO
  iintro ⟨Hb, HO⟩
  ihave Hb := (Entails.of_eq hb) $$ Hb
  icases Hb with ⟨Hl, Hc⟩
  iapply Hk
  isplitl [Hl]; · iexact Hl
  isplitl [Hc]; · iexact Hc
  iexact HO

/-- Up to the product of the device's own rows: the neighbours greeted and heard of, the first copies started. -/
theorem run_first (c : Dev nD) (k : Prog (TpuEff nD τ sig (Elt F) Λ₀ .tc) PUnit) (Q : PUnit → sProp 𝕄) :
    iprop(common X K ∗ rowsHeld X c ∗ colsHeld W c ∗ outDone X W c ∅ ∗ some' (F := F) c cc0_scratch0 ∗ some' (F := F) c cc0_scratch1
        ∗ dutyTok ER (barCell (next false c)) 0 true ∗ dutyTok ER (barCell (next true c)) 0 false
        ∗ awaiting (F := F) c (.inl ()) 2 ∗ bigSep legSet (payable (F := F) c) ∗ owing c (owedAll c))
      ⊢ iprop(((rowsHeld X c ∗ colsHeld W c ∗ ownHeld W c ∗ outDone X W c (insert 0 ∅) ∗ closed (F := F) c (.inl ())
            ∗ held c 0 0 fullShare.right.right (gathered X c) ∗ held c 0 1 fullShare.right.right (gathered X c)
            ∗ row 0 (departing (F := F) c) ∗ row 1 (startable (F := F) c) ∗ row 2 (startable (F := F) c)
            ∗ row 3 (startable (F := F) c) ∗ row 4 (startable (F := F) c) ∗ row 5 (startable (F := F) c)
            ∗ row 6 (startable (F := F) c) ∗ lastRow (startable (F := F) c) ∗ owing c (owedFor c (later 1))) -∗ runs c k Q)
        -∗ runs c (do
            greet (next false c) (next true c)
            fillHalf rowsM 0
            semWaitWord barrier0 2#32
            start (next true c) (true, 0, 0)
            start (next false c) (false, 0, 0)
            fillHalf rowsM 1
            start (next true c) (true, 0, 1)
            start (next false c) (false, 0, 1)
            fillCols colsM
            multiply outM c 0
            k) Q) := by
  have hrow : row 0 (startable (F := F) c) = iprop(startable c (true, 0, 0) ∗ startable c (false, 0, 0)
    ∗ startable c (true, 0, 1) ∗ startable c (false, 0, 1)) := rfl
  have hend : ((((later 0).erase (true, 0, 0)).erase (false, 0, 0)).erase (true, 0, 1)).erase (false, 0, 1) = later 1 :=
    later_erase 0 (by decide)
  unfold some'
  iintro ⟨#HC, Hx, Hw, Ho, ⟨%f, Hg⟩, ⟨%g, Hb⟩, Tl, Tr, Hbar, Hp, HO⟩ Hk
  ihave Hg := (take_apart c f) $$ Hg
  icases Hg with ⟨P0, P1, Gt, Gf⟩
  unfold runs
  rw [wp_bind]
  iapply (run_greet X K c) $$ [Gt Gf Tl Tr HO]
  · isplitr; · iexact HC
    isplitl [Gt]; · iexact Gt
    isplitl [Gf]; · iexact Gf
    isplitl [Tl]; · iexact Tl
    isplitl [Tr]; · iexact Tr
    iexact HO
  rw [← later_zero]
  iintro HO
  rw [wp_bind]
  iapply (run_fillHalf X c 0 f) $$ [Hx P0]
  · isplitl [Hx]; · iexact Hx
    iexact P0
  iintro ⟨Hx, P0⟩
  rw [wp_bind]
  iapply (run_hear X K c) $$ [Hbar HO]
  · isplitr; · iexact HC
    isplitl [Hbar]; · iexact Hbar
    rw [← later_zero]
    iexact HO
  rw [← later_zero]
  iintro ⟨Wf, Wt, Hcl, HO⟩
  ihave Hs := (ready c) $$ [Wf Wt Hp]
  · isplitl [Wf]; · iexact Wf
    isplitl [Wt]; · iexact Wt
    iexact Hp
  ihave Hs := (Entails.of_eq ((rows_eq (startable (F := F) c)).trans (by rw [hrow]))) $$ Hs
  icases Hs with ⟨⟨S1, S2, S3, S4⟩, R1, R2, R3, R4, R5, R6, R7⟩
  ihave P0 := (own_shares X c 0).1 $$ P0
  icases P0 with ⟨L1, L2, P0⟩
  rw [wp_bind]
  iapply (run_start X K c (true, 0, 0) (by decide) (later 0) (by decide)) $$ [L1 S1 HO]
  · isplitr; · iexact HC
    isplitl [L1]; · iexact L1
    isplitl [S1]; · iexact S1
    iexact HO
  iintro ⟨D1, HO⟩
  rw [wp_bind]
  iapply (run_start X K c (false, 0, 0) (by decide) ((later 0).erase (true, 0, 0)) (by decide)) $$ [L2 S2 HO]
  · isplitr; · iexact HC
    isplitl [L2]; · iexact L2
    isplitl [S2]; · iexact S2
    iexact HO
  iintro ⟨D2, HO⟩
  rw [wp_bind]
  iapply (run_fillHalf X c 1 f) $$ [Hx P1]
  · isplitl [Hx]; · iexact Hx
    iexact P1
  iintro ⟨Hx, P1⟩
  ihave P1 := (own_shares X c 1).1 $$ P1
  icases P1 with ⟨L3, L4, P1⟩
  rw [wp_bind]
  iapply (run_start X K c (true, 0, 1) (by decide) (((later 0).erase (true, 0, 0)).erase (false, 0, 0)) (by decide)) $$ [L3 S3 HO]
  · isplitr; · iexact HC
    isplitl [L3]; · iexact L3
    isplitl [S3]; · iexact S3
    iexact HO
  iintro ⟨D3, HO⟩
  rw [wp_bind]
  iapply (run_start X K c (false, 0, 1) (by decide) ((((later 0).erase (true, 0, 0)).erase (false, 0, 0)).erase (true, 0, 1))
    (by decide)) $$ [L4 S4 HO]
  · isplitr; · iexact HC
    isplitl [L4]; · iexact L4
    isplitl [S4]; · iexact S4
    iexact HO
  iintro ⟨D4, HO⟩
  rw [hend, wp_bind]
  iapply (run_fillCols W c g) $$ [Hw Hb]
  · isplitl [Hw]; · iexact Hw
    iexact Hb
  iintro ⟨Hw, Hb⟩
  rw [wp_bind]
  iapply (run_multiply X W c 0 fullShare.right.right ∅) $$ [P0 P1 Hb Ho]
  · isplitl [P0]; · iexact P0
    isplitl [P1]; · iexact P1
    isplitl [Hb]; · iexact Hb
    iexact Ho
  iintro ⟨P0, P1, Hb, Ho⟩
  iapply Hk
  isplitl [Hx]; · iexact Hx
  isplitl [Hw]; · iexact Hw
  isplitl [Hb]; · iexact Hb
  isplitl [Ho]; · iexact Ho
  isplitl [Hcl]; · iexact Hcl
  isplitl [P0]; · iexact P0
  isplitl [P1]; · iexact P1
  isplitl [D1 D2 D3 D4]
  · unfold row
    isplitl [D1]; · iexact D1
    isplitl [D2]; · iexact D2
    isplitl [D3]; · iexact D3
    iexact D4
  isplitl [R1]; · iexact R1
  isplitl [R2]; · iexact R2
  isplitl [R3]; · iexact R3
  isplitl [R4]; · iexact R4
  isplitl [R5]; · iexact R5
  isplitl [R6]; · iexact R6
  isplitl [R7]; · iexact R7
  iexact HO

/-- The last two hops: two of the four halves go one step further, and meet in slot 8. -/
theorem run_last (c : Dev nD) (T : Finset (Fin 16)) (k : Prog (TpuEff nD τ sig (Elt F) Λ₀ .tc) PUnit) (Q : PUnit → sProp 𝕄) :
    iprop(common X K ∗ row 6 (arriving (F := F) c) ∗ lastRow (arriving (F := F) c) ∗ lastRow (startable (F := F) c)
        ∗ owing c (owedFor c (later 7)) ∗ ownHeld W c ∗ outDone X W c T)
      ⊢ iprop(((row 6 (got X c) ∗ lastRow (got X c) ∗ lastRow (departing (F := F) c) ∗ owing c 0 ∗ ownHeld W c
            ∗ outDone X W c (insert 8 (insert 9 (insert 7 T)))
            ∗ spare X c (false, 6, 0) ∗ spare X c (true, 6, 1) ∗ spare X c (true, 7, 0) ∗ spare X c (false, 7, 1)) -∗ runs c k Q)
        -∗ runs c (do
            relay (fun l => next l.1 c) true 0 6 7
            arrive (false, 6, 0)
            arrive (true, 6, 1)
            relay (fun l => next l.1 c) false 1 6 7
            multiply outM c 7
            multiply outM c 9
            arrive (true, 7, 0)
            arrive (false, 7, 1)
            multiply outM c 8
            k) Q) := by
  have hend : owedFor c (((later 7).erase (true, 7, 0)).erase (false, 7, 1)) = 0 := by rw [later_last, owedFor_empty]
  have h0 : (0 : CellTallies nD τ sig Unit) = owedFor c ∅ := (owedFor_empty c).symm
  unfold row lastRow
  iintro ⟨#HC, ⟨A1, A2, A3, A4⟩, ⟨A5, A6⟩, ⟨S1, S2⟩, HO, Hw, Ho⟩ Hk
  unfold runs
  rw [wp_bind]
  iapply (run_relay X K c true 0 6 7 rfl (by decide) (later 7) (by decide) subset_rfl) $$ [A1 S1 HO]
  · isplitr; · iexact HC
    isplitl [A1]; · iexact A1
    isplitl [S1]; · iexact S1
    iexact HO
  iintro ⟨G1, D1, HO⟩
  rw [wp_bind]
  iapply (run_receive X K c (false, 6, 0) (by decide) ((later 7).erase (true, 7, 0)) (by decide)) $$ [A2 HO]
  · isplitr; · iexact HC
    isplitl [A2]; · iexact A2
    iexact HO
  iintro ⟨G2, P2, HO⟩
  rw [wp_bind]
  iapply (run_receive X K c (true, 6, 1) (by decide) ((later 7).erase (true, 7, 0)) (by decide)) $$ [A3 HO]
  · isplitr; · iexact HC
    isplitl [A3]; · iexact A3
    iexact HO
  iintro ⟨G3, P3, HO⟩
  rw [wp_bind]
  iapply (run_relay X K c false 1 6 7 rfl (by decide) ((later 7).erase (true, 7, 0)) (by decide) (Finset.erase_subset _ _)) $$ [A4 S2 HO]
  · isplitr; · iexact HC
    isplitl [A4]; · iexact A4
    isplitl [S2]; · iexact S2
    iexact HO
  iintro ⟨G4, D2, HO⟩
  rw [wp_bind]
  iapply (run_multiply_got X W c true 6 T) $$ [G1 G3 Hw Ho]
  · isplitl [G1]; · iexact G1
    isplitl [G3]; · iexact G3
    isplitl [Hw]; · iexact Hw
    iexact Ho
  iintro ⟨G1, G3, Hw, Ho⟩
  rw [wp_bind]
  iapply (run_multiply_got X W c false 6 _) $$ [G2 G4 Hw Ho]
  · isplitl [G2]; · iexact G2
    isplitl [G4]; · iexact G4
    isplitl [Hw]; · iexact Hw
    iexact Ho
  iintro ⟨G2, G4, Hw, Ho⟩
  rw [hend, h0, wp_bind]
  iapply (run_receive X K c (true, 7, 0) (by decide) ∅ (Finset.empty_subset _)) $$ [A5 HO]
  · isplitr; · iexact HC
    isplitl [A5]; · iexact A5
    iexact HO
  iintro ⟨G5, P5, HO⟩
  rw [wp_bind]
  iapply (run_receive X K c (false, 7, 1) (by decide) ∅ (Finset.empty_subset _)) $$ [A6 HO]
  · isplitr; · iexact HC
    isplitl [A6]; · iexact A6
    iexact HO
  iintro ⟨G6, P6, HO⟩
  rw [wp_bind]
  unfold got kept
  icases G5 with ⟨G5, C5⟩
  icases G6 with ⟨G6, C6⟩
  iapply (run_multiply X W c 8 fullShare.right _) $$ [G5 G6 Hw Ho]
  · isplitl [G5]; · iexact G5
    isplitl [G6]; · iexact G6
    isplitl [Hw]; · iexact Hw
    iexact Ho
  iintro ⟨G5, G6, Hw, Ho⟩
  iapply Hk
  isplitl [G1 G2 G3 G4]
  · isplitl [G1]; · iexact G1
    isplitl [G2]; · iexact G2
    isplitl [G3]; · iexact G3
    iexact G4
  isplitl [G5 C5 G6 C6]
  · isplitl [G5 C5]
    · isplitl [G5]; · iexact G5
      iexact C5
    isplitl [G6]; · iexact G6
    iexact C6
  isplitl [D1 D2]
  · isplitl [D1]; · iexact D1
    iexact D2
  isplitl [HO]; · iexact HO
  isplitl [Hw]; · iexact Hw
  isplitl [Ho]; · iexact Ho
  isplitl [P2]; · iexact P2
  isplitl [P3]; · iexact P3
  isplitl [P5]; · iexact P5
  iexact P6

end Cert.AllGather

end
-- ==== Proof.Ring.Whole.lean ====
/-
The body of the kernel as a whole: the first copies, six hops, the last two, and the departures.
-/
module

public import proofs.«01_k».proof.Proof.Ring.Body

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x128 .bf16) (K : Dev nD × Slot → ℕ)

/-- The slots multiplied in the first hops, and in all. -/
def doneTo : ℕ → Finset (Fin 16)
  | 0 => insert 0 ∅
  | n + 1 => insert (dstSlot false (Fin.ofNat 8 n)) (insert (dstSlot true (Fin.ofNat 8 n)) (doneTo n))

theorem doneTo_all : insert 8 (insert 9 (insert 7 (doneTo 6))) = Finset.univ := by decide

/-- What runs through the hops: the later copies' debt, the columns, and the result so far. -/
def carried (c : Dev nD) (n : ℕ) : sProp 𝕄 :=
  iprop(owing c (owedFor c (later (n + 1))) ∗ ownHeld W c ∗ outDone X W c (doneTo n))

/-- One hop, and then the rest. -/
theorem run_hop_then (c : Dev nD) (n : ℕ) (hn : n < 6) (k : Prog (TpuEff nD τ sig (Elt F) Λ₀ .tc) PUnit) (Q : PUnit → sProp 𝕄) :
    iprop(common X K ∗ row (Fin.ofNat 8 n) (arriving (F := F) c) ∗ row (Fin.ofNat 8 (n + 1)) (startable (F := F) c) ∗ carried X W c n)
      ⊢ iprop(((row (Fin.ofNat 8 n) (got X c) ∗ row (Fin.ofNat 8 (n + 1)) (departing (F := F) c) ∗ carried X W c (n + 1)) -∗ runs c k Q)
        -∗ runs c (do
            hop outM (fun l => next l.1 c) c (Fin.ofNat 8 n) (Fin.ofNat 8 (n + 1))
            k) Q) := by
  have e : (Fin.ofNat 8 (n + 1)).val = n + 1 := Nat.mod_eq_of_lt (by omega)
  have e' : (Fin.ofNat 8 n).val = n := Nat.mod_eq_of_lt (by omega)
  have h := run_hop X W K c (Fin.ofNat 8 n) (Fin.ofNat 8 (n + 1)) (by rw [e, e']) (by rw [e]; omega) (doneTo n)
  rw [e] at h
  unfold carried
  iintro ⟨#HC, Ha, Hs, HO, Hw, Ho⟩ Hk
  unfold runs
  rw [wp_bind]
  iapply (h _) $$ [Ha Hs HO Hw Ho]
  · isplitr; · iexact HC
    isplitl [Ha]; · iexact Ha
    isplitl [Hs]; · iexact Hs
    isplitl [HO]; · iexact HO
    isplitl [Hw]; · iexact Hw
    iexact Ho
  iintro ⟨Ha, Hs, HO, Hw, Ho⟩
  iapply Hk
  isplitl [Ha]; · iexact Ha
  isplitl [Hs]; · iexact Hs
  isplitl [HO]; · iexact HO
  isplitl [Hw]; · iexact Hw
  iexact Ho

/-- All that a device has when it starts the body, and when it is through. -/
def before (c : Dev nD) : sProp 𝕄 :=
  iprop(rowsHeld X c ∗ colsHeld W c ∗ some' (F := F) c cc0_stg2_0 ∗ some' (F := F) c cc0_scratch0 ∗ some' (F := F) c cc0_scratch1
    ∗ begins (F := F) c ∗ owing c (owedAll c))
def after (c : Dev nD) : sProp 𝕄 :=
  iprop(rowsHeld X c ∗ colsHeld W c ∗ outHeld X W c ∗ ends (F := F) c ∗ owing c 0)

/-- When every copy has arrived and left, the cells close and the gathered copy is whole again. -/
theorem finish (c : Dev nD) :
    iprop(common X K ∗ held c 0 0 fullShare.right.right (gathered X c) ∗ held c 0 1 fullShare.right.right (gathered X c)
        ∗ bigSep legSet (got X c) ∗ bigSep legSet (lent X c)
        ∗ spare X c (false, 6, 0) ∗ spare X c (true, 6, 1) ∗ spare X c (true, 7, 0) ∗ spare X c (false, 7, 1)
        ∗ bigSep legSet (fun l => closed (F := F) c (.inr (false, l))) ∗ closed (F := F) c (.inl ()) ∗ ownHeld W c
        ∗ bigSep (Finset.univ.filter fun l => ¬ used l) (fun l => fresh (F := F) c (.inr (false, l)))
        ∗ bigSep (Finset.univ.filter fun l => ¬ used l) (fun l => fresh (F := F) c (.inr (true, l))))
      ⊢ iprop(|={Set.univ}=> ends (F := F) c) := by
  have hg : bigSep legSet (got X c) = iprop(bigSep legSet (kept X c) ∗ bigSep legSet fun l => closed (F := F) c (.inr (true, l))) :=
    bigSep_sep' legSet (kept X c) fun l => closed (F := F) c (.inr (true, l))
  iintro ⟨#HC, P0, P1, Hg, Hl, Q1, Q2, Q3, Q4, Cs, Cb, Hw, Us, Ur⟩
  ihave Hg := (Entails.of_eq hg) $$ Hg
  icases Hg with ⟨Hk, Cr⟩
  ihave Hall := (put_together X c) $$ [P0 P1 Hk Hl Q1 Q2 Q3 Q4]
  · isplitl [P0]; · iexact P0
    isplitl [P1]; · iexact P1
    isplitl [Hk]; · iexact Hk
    isplitl [Hl]; · iexact Hl
    isplitl [Q1]; · iexact Q1
    isplitl [Q2]; · iexact Q2
    isplitl [Q3]; · iexact Q3
    iexact Q4
  imod (close_all X K c false) $$ [Cs Us] with Cs
  · isplitr; · iexact HC
    isplitl [Cs]; · iexact Cs
    iexact Us
  imod (close_all X K c true) $$ [Cr Ur] with Cr
  · isplitr; · iexact HC
    isplitl [Cr]; · iexact Cr
    iexact Ur
  imodintro
  unfold ends some'
  isplitl [Cb]; · iexact Cb
  isplitl [Cs]; · iexact Cs
  isplitl [Cr]; · iexact Cr
  isplitl [Hall]; · iexists gathered X c; iexact Hall
  unfold ownHeld
  iexists _; iexact Hw

theorem run_body (c : Dev nD) (Q : PUnit → sProp 𝕄) :
    iprop(common X K ∗ before X W c) ⊢ iprop((after X W c -∗ Q ⟨⟩) -∗ runs c (body rowsM colsM outM) Q) := by
  have hz : (owedFor c (later 1)) = owedFor c (later (0 + 1)) := rfl
  unfold before begins after
  iintro ⟨#HC, Hx, Hw, Ho, Hg, Hb, ⟨Tl, Tr, Hbar, Ha, Hp, Us, Ur⟩, HO⟩ Hk
  ihave Ha := (Entails.of_eq (rows_eq (arriving (F := F) c))) $$ Ha
  icases Ha with ⟨A0, A1, A2, A3, A4, A5, A6, A7⟩
  ihave Ho := (outDone_none X W c) $$ Ho
  unfold body bodyTo runs
  rw [wp_bind]
  rw [Prog.lift, wp_deviceId, wp_ret]
  imodintro
  iapply (run_first X W K c _ Q) $$ [Hx Hw Ho Hg Hb Tl Tr Hbar Hp HO]
  · isplitr; · iexact HC
    isplitl [Hx]; · iexact Hx
    isplitl [Hw]; · iexact Hw
    isplitl [Ho]; · iexact Ho
    isplitl [Hg]; · iexact Hg
    isplitl [Hb]; · iexact Hb
    isplitl [Tl]; · iexact Tl
    isplitl [Tr]; · iexact Tr
    isplitl [Hbar]; · iexact Hbar
    isplitl [Hp]; · iexact Hp
    iexact HO
  iintro ⟨Hx, Hw, Hb, Ho, Cb, P0, P1, D0, R1, R2, R3, R4, R5, R6, R7, HO⟩
  iapply (run_hop_then X W K c 0 (by decide) _ Q) $$ [A0 R1 HO Hb Ho]
  · isplitr; · iexact HC
    isplitl [A0]; · iexact A0
    isplitl [R1]; · iexact R1
    unfold carried doneTo
    isplitl [HO]; · iexact HO
    isplitl [Hb]; · iexact Hb
    iexact Ho
  iintro ⟨G0, D1, Hc⟩
  iapply (run_hop_then X W K c 1 (by decide) _ Q) $$ [A1 R2 Hc]
  · isplitr; · iexact HC
    isplitl [A1]; · iexact A1
    isplitl [R2]; · iexact R2
    iexact Hc
  iintro ⟨G1, D2, Hc⟩
  iapply (run_hop_then X W K c 2 (by decide) _ Q) $$ [A2 R3 Hc]
  · isplitr; · iexact HC
    isplitl [A2]; · iexact A2
    isplitl [R3]; · iexact R3
    iexact Hc
  iintro ⟨G2, D3, Hc⟩
  iapply (run_hop_then X W K c 3 (by decide) _ Q) $$ [A3 R4 Hc]
  · isplitr; · iexact HC
    isplitl [A3]; · iexact A3
    isplitl [R4]; · iexact R4
    iexact Hc
  iintro ⟨G3, D4, Hc⟩
  iapply (run_hop_then X W K c 4 (by decide) _ Q) $$ [A4 R5 Hc]
  · isplitr; · iexact HC
    isplitl [A4]; · iexact A4
    isplitl [R5]; · iexact R5
    iexact Hc
  iintro ⟨G4, D5, Hc⟩
  iapply (run_hop_then X W K c 5 (by decide) _ Q) $$ [A5 R6 Hc]
  · isplitr; · iexact HC
    isplitl [A5]; · iexact A5
    isplitl [R6]; · iexact R6
    iexact Hc
  iintro ⟨G5, D6, Hc⟩
  unfold carried
  icases Hc with ⟨HO, Hb, Ho⟩
  iapply (run_last X W K c (doneTo 6) _ Q) $$ [A6 A7 R7 HO Hb Ho]
  · isplitr; · iexact HC
    isplitl [A6]; · iexact A6
    isplitl [A7]; · iexact A7
    isplitl [R7]; · iexact R7
    isplitl [HO]; · iexact HO
    isplitl [Hb]; · iexact Hb
    iexact Ho
  iintro ⟨G6, G7, D7, HO, Hb, Ho, Q1, Q2, Q3, Q4⟩
  iapply (wp_fupd frame _ Set.univ)
  iapply (run_end X K c _) $$ [D0 D1 D2 D3 D4 D5 D6 D7 HO]
  · isplitr; · iexact HC
    isplitl [D0 D1 D2 D3 D4 D5 D6 D7]
    · iapply (Entails.of_eq (rows_eq (departing (F := F) c)).symm)
      isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
    iexact HO
  iintro ⟨Hl, Cs, HO⟩
  imod (finish X W K c) $$ [P0 P1 G0 G1 G2 G3 G4 G5 G6 G7 Hl Q1 Q2 Q3 Q4 Cs Cb Hb Us Ur] with He
  · isplitr; · iexact HC
    isplitl [P0]; · iexact P0
    isplitl [P1]; · iexact P1
    isplitl [G0 G1 G2 G3 G4 G5 G6 G7]
    · iapply (Entails.of_eq (rows_eq (got X c)).symm)
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    isplitl [Hl]; · iexact Hl
    isplitl [Q1]; · iexact Q1
    isplitl [Q2]; · iexact Q2
    isplitl [Q3]; · iexact Q3
    isplitl [Q4]; · iexact Q4
    isplitl [Cs]; · iexact Cs
    isplitl [Cb]; · iexact Cb
    isplitl [Hb]; · iexact Hb
    isplitl [Us]; · iexact Us
    iexact Ur
  imodintro
  iapply Hk
  isplitl [Hx]; · iexact Hx
  isplitl [Hw]; · iexact Hw
  isplitl [Ho]
  · rw [doneTo_all]
    iapply (outDone_all X W c)
    iexact Ho
  isplitl [He]; · iexact He
  iexact HO

end Cert.AllGather

end
-- ==== Proof.Ring.Obligation.lean ====
/-
The run of the body in terms of its windows: what each holds before and after, and what the device has besides.
-/
module

public import proofs.«01_k».proof.Proof.Ring.Whole

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The rows and the columns that device `c` is given. -/
def rowsOf (c : Dev nD) : Vec F S256x4096 .bf16 := (win0_0.blk (0 : Fin 1)).view.read (Elt F) (m ((c : Thread nD τ).loc main_arg0))
def colsOf (c : Dev nD) : Vec F S4096x128 .bf16 := (win0_1.blk (0 : Fin 1)).view.read (Elt F) (m ((c : Thread nD τ).loc main_arg1))

/-- What a device has besides its windows, before the body. -/
def setOut (c : Dev nD) : sProp 𝕄 :=
  iprop((∃ K, common (rowsOf m) K) ∗ begins (F := F) c ∗ some' (F := F) c cc0_scratch0 ∗ some' (F := F) c cc0_scratch1)

/-- The windows' contents, and the rest, before and after the one point of the grid. -/
def dats (_ : Fin 1) (c : Dev nD) : Dat τ (Elt F) Unit ℕ UU ℕ cfg0 c where
  A w := m ((cfg0.win w).arr.view.loc (c : Thread nD τ))
  after w _ := match w with
    | ⟨0, _⟩ => rowsOf m c
    | ⟨1, _⟩ => colsOf m c
    | ⟨2, _⟩ => outAt (rowsOf m) (colsOf m) c
  Φ t := match t with
    | ⟨0, _⟩ => setOut m c
    | ⟨_ + 1, _⟩ => ends (F := F) c
  q _ := fullShare
  owed t := match t with
    | ⟨0, _⟩ => owedAll c
    | ⟨_ + 1, _⟩ => 0

omit [FloatOps F] in
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b) ↦{fullShare} g) := by
  unfold owns; simp only [Memref.view_whole, View.read_whole, View.set_whole]

/-- A buffer that holds `f`. -/
abbrev holds (c : Dev nD) (b : Ref sig .tc) (f : b.ty.Contents (Elt F)) : sProp 𝕄 :=
  iprop(∃ g : Buf (Elt F) ((c : Thread nD τ).loc b), ⌜g = f⌝ ∗ ((c : Thread nD τ).loc b) ↦{fullShare} g)

/-- Before the body, and after it, as the windows see it. -/
def seenBefore (c : Dev nD) : sProp 𝕄 :=
  iprop(setOut m c ∗ (dats m 0 c).owesAt () point.castSucc
    ∗ (∃ d, holds c cc0_stg0_0 ((dats m 0 c).before (0 : Fin 3) point d))
    ∗ (∃ d, holds c cc0_stg1_0 ((dats m 0 c).before (1 : Fin 3) point d))
    ∗ (∃ d, holds c cc0_stg2_0 ((dats m 0 c).before (2 : Fin 3) point d)))
def seenAfter (c : Dev nD) : sProp 𝕄 :=
  iprop(ends (F := F) c ∗ (dats m 0 c).owesAt () point.succ
    ∗ holds c cc0_stg0_0 (rowsOf m c) ∗ holds c cc0_stg1_0 (colsOf m c) ∗ holds c cc0_stg2_0 (outAt (rowsOf m) (colsOf m) c))

theorem seen_before (c : Dev nD) :
    seenBefore m c ⊢ iprop(∃ K, common (rowsOf m) K ∗ before (rowsOf m) (colsOf m) c) := by
  unfold seenBefore setOut before some' Dat.owesAt Pipeline.owesWithin
  iintro ⟨⟨⟨%K, #HC⟩, Hb, Hg, Hs⟩, ⟨%W, %hW, HO⟩, ⟨%d0, %g0, %h0, Hx⟩, ⟨%d1, %g1, %h1, Hw⟩, ⟨%d2, %g2, %h2, Ho⟩⟩
  have e0 : g0 = rowsOf m c := by rw [h0]; unfold Dat.before; rw [if_pos (fetch_x point)]; rfl
  have e1 : g1 = colsOf m c := by rw [h1]; unfold Dat.before; rw [if_pos (fetch_w point)]; rfl
  subst e0 e1
  iexists K
  isplitr; · iexact HC
  isplitl [Hx]; · unfold rowsHeld; iexact Hx
  isplitl [Hw]; · unfold colsHeld; iexact Hw
  isplitl [Ho]; · iexists g2; iexact Ho
  isplitl [Hg]; · iexact Hg
  isplitl [Hs]; · iexact Hs
  isplitl [Hb]; · iexact Hb
  unfold owing
  iexists W
  iexact HO

theorem seen_after (c : Dev nD) : after (rowsOf m) (colsOf m) c ⊢ seenAfter m c := by
  unfold after seenAfter Dat.owesAt Pipeline.owesWithin rowsHeld colsHeld outHeld owing
  iintro ⟨Hx, Hw, Ho, He, ⟨%W, HO⟩⟩
  isplitl [He]; · iexact He
  isplitl [HO]
  · iexists W
    isplitr; · ipureintro; exact fun _ _ => Or.inl trivial
    iexact HO
  isplitl [Hx]
  · iexists _; isplitr; · ipureintro; rfl
    iexact Hx
  isplitl [Hw]
  · iexists _; isplitr; · ipureintro; rfl
    iexact Hw
  iexists _; isplitr; · ipureintro; rfl
  iexact Ho

set_option maxRecDepth 65536 in
theorem body_obligation (c : Dev nD) : BodyObligation (dats m 0 c) (defs₀ (F := F)) 𝒱₀ () Set.univ := fun t => by
  rw [eq_point t]
  rw [windows, windows]
  simp only [owns_whole]
  show seenBefore m c ⊢ wp frame (wpE (defs₀ (F := F)) 𝒱₀ c none) Set.univ
    (cc0_body (F := F) rowsM (Memref.isWhole_whole _) colsM (Memref.isWhole_whole _) outM (Memref.isWhole_whole _)
      xg (Memref.isWhole_whole _) wb (Memref.isWhole_whole _) cc0_scratch2 cc0_scratch3 cc0_scratch4 cc0_scratch5)
    (fun _ => seenAfter m c)
  rw [body_eq]
  iintro H
  ihave H := (seen_before m c) $$ H
  icases H with ⟨%K, HC, Hb⟩
  iapply (run_body (rowsOf m) (colsOf m) K c fun _ => seenAfter m c) $$ [HC Hb]
  · isplitl [HC]; · iexact HC
    iexact Hb
  iintro H
  iapply (seen_after m c)
  iexact H

end Cert.AllGather

end
-- ==== Proof.Ring.Deal.lean ====
/-
What the devices have at the launch, dealt to those who use it: the records of the cells, the right to pay each duty,
and the credits with which the waits are made.
-/
module

public import proofs.«01_k».proof.Proof.Ring.Obligation

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and duties -/

def allCells : Finset (GSem nD τ sig) := Finset.univ.map ⟨fun ck : Dev nD × Slot => cell ck.1 ck.2, cell_injective⟩

/-- A duty of a device's own cells: one of the two of its barrier, or the one of a copy's cell. -/
abbrev Ticket := Bool ⊕ (Bool × Leg)
abbrev ticket (ct : Dev nD × Ticket) : GSem nD τ sig × ℕ × Bool := match ct.2 with
  | .inl d => (barCell ct.1, 0, d)
  | .inr k => (cell ct.1 (.inr k), 0, false)

theorem ticket_injective : Function.Injective ticket := by
  rintro ⟨c, t⟩ ⟨c', t'⟩ h
  rcases t with d | k <;> rcases t' with d' | k'
  · have h₁ : c = c' := (cell_inj (congrArg Prod.fst h)).1
    have h₂ : d = d' := congrArg (fun x : GSem nD τ sig × ℕ × Bool => x.2.2) h
    rw [h₁, h₂]
  · exact absurd (cell_inj (congrArg Prod.fst h)).2 (by simp)
  · exact absurd (cell_inj (congrArg Prod.fst h)).2 (by simp)
  · have h₁ : c = c' := (cell_inj (congrArg Prod.fst h)).1
    have h₂ : k = k' := Sum.inr.inj (cell_inj (congrArg Prod.fst h)).2
    rw [h₁, h₂]
def allTickets : Finset (GSem nD τ sig × ℕ × Bool) := Finset.univ.map ⟨ticket, ticket_injective⟩

def launched : UU :=
  (initOf (Pipeline.cells cfgs staging_inj) (Pipeline.launchToks cfgs staging_inj), initOf allCells allTickets)

omit [FloatOps F] in
theorem both (Φ : Bool → sProp 𝕄) : bigSep Finset.univ Φ = iprop(Φ false ∗ Φ true) :=
  bigSep_univ_eq_bigSepL [false, true] (by decide) (by decide) Φ

omit [FloatOps F] in
/-- Over the cells of a device: its barrier, its departures, its arrivals. -/
theorem over_slots (Φ : Slot → sProp 𝕄) :
    bigSep Finset.univ Φ = iprop(Φ (.inl ()) ∗ (bigSep Finset.univ fun l => Φ (.inr (false, l))) ∗ bigSep Finset.univ fun l => Φ (.inr (true, l))) := by
  rw [bigSep_univ_sum, bigSep_univ_prod, both, bigSep_univ_of_subsingleton ()]
  rfl

omit [FloatOps F] in
/-- Over the copies: those of the ring, and the rest. -/
theorem over_legs (Φ : Leg → sProp 𝕄) :
    bigSep Finset.univ Φ = iprop(bigSep legSet Φ ∗ bigSep (Finset.univ.filter fun l => ¬ used l) Φ) :=
  bigSep_filter_split Finset.univ used

/-- The duties of device `c`'s own cells. -/
def tickets (c : Dev nD) : sProp 𝕄 :=
  iprop((dutyTok ER (barCell c) 0 false ∗ dutyTok ER (barCell c) 0 true) ∗ (bigSep Finset.univ fun l => dutyTok ER (sendCell c l) 0 false)
    ∗ bigSep Finset.univ fun l => dutyTok ER (recvCell c l) 0 false)
/-- The duties that device `c` pays. -/
def payments (c : Dev nD) : sProp 𝕄 :=
  iprop((dutyTok ER (barCell (next true c)) 0 false ∗ dutyTok ER (barCell (next false c)) 0 true)
    ∗ (bigSep Finset.univ fun l => dutyTok ER (sendCell c l) 0 false)
    ∗ bigSep Finset.univ fun l : Leg => dutyTok ER (recvCell (next l.1 c) l) 0 false)

omit [FloatOps F] in
/-- Dealt around the ring, the duties of all are paid by all. -/
theorem deal : (bigSep Finset.univ fun c : Dev nD => tickets (F := F) c) = bigSep Finset.univ fun c : Dev nD => payments c := by
  have hf : (bigSep Finset.univ fun c : Dev nD => (dutyTok ER (barCell c) 0 false : sProp 𝕄))
      = bigSep Finset.univ fun c : Dev nD => dutyTok ER (barCell (next true c)) 0 false :=
    bigSep_univ_equiv (around true) _
  have ht : (bigSep Finset.univ fun c : Dev nD => (dutyTok ER (barCell c) 0 true : sProp 𝕄))
      = bigSep Finset.univ fun c : Dev nD => dutyTok ER (barCell (next false c)) 0 true :=
    bigSep_univ_equiv (around false) _
  have hr : (bigSep Finset.univ fun c : Dev nD => bigSep Finset.univ fun l : Leg => (dutyTok ER (recvCell c l) 0 false : sProp 𝕄))
      = bigSep Finset.univ fun c : Dev nD => bigSep Finset.univ fun l : Leg => dutyTok ER (recvCell (next l.1 c) l) 0 false := by
    rw [bigSep_univ_comm, bigSep_univ_comm fun (c : Dev nD) (l : Leg) => (dutyTok ER (recvCell (next l.1 c) l) 0 false : sProp 𝕄)]
    exact bigSep_congr fun l _ => bigSep_univ_equiv (around l.1) _
  unfold tickets payments
  simp only [bigSep_sep']
  rw [hf, ht, hr]

variable (X : Dev nD → Vec F S256x4096 .bf16)

/-- What the launch gives device `c` of the protocol. -/
def given (c : Dev nD) : sProp 𝕄 :=
  iprop((bigSep Finset.univ fun k : Slot => roundState ER (plan X) (cell c k) 0)
    ∗ (bigSep Finset.univ fun k : Slot => fresh (F := F) c k)
    ∗ (bigSep Finset.univ fun k : Slot => reached ER (cell c k) 0) ∗ tickets (F := F) c)

omit [FloatOps F] in
theorem fund_all : BI.own (ER (initOf allCells allTickets)) ⊢ (|==> bigSep Finset.univ (given X) : sProp 𝕄) := by
  have hX (Φ : GSem nD τ sig → sProp 𝕄) :
      bigSep allCells Φ = bigSep Finset.univ fun c : Dev nD => bigSep Finset.univ fun k : Slot => Φ (cell c k) := by
    unfold allCells; rw [bigSep_map, bigSep_univ_prod]; rfl
  have hT : bigSep allTickets (fun x => (dutyTok ER x.1 x.2.1 x.2.2 : sProp 𝕄)) = bigSep Finset.univ fun c : Dev nD => tickets c := by
    unfold allTickets
    rw [bigSep_map, bigSep_univ_prod]
    exact bigSep_congr fun c _ => by
      rw [bigSep_univ_sum, both, bigSep_univ_prod, both]
      rfl
  iintro HX
  imod (Rounds.fund ER (plan X) allCells allTickets) $$ HX with ⟨Hst, Hr, Hat, Htok⟩
  imodintro
  ihave Hst := (Entails.of_eq (hX fun g => roundState ER (plan X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given fresh
  simp only [bigSep_sep']
  isplitl [Hst]; · iexact Hst
  isplitl [Hat]; · iexact Hat
  isplitl [Hr]; · iexact Hr
  iexact Htok

/-! ## The cells' records -/

abbrev ownCounters (c : Dev nD) : sProp 𝕄 :=
  Pipeline.ownSems0 (Ix := Unit) (Name := ℕ) (U := UU) (Lvl := ℕ) (Val := Elt F) (τ := τ) copySem c

omit [FloatOps F] in
theorem ownCounters_eq (c : Dev nD) : ownCounters (F := F) c = bigSep Finset.univ fun k : Bool × Leg => semVal (cell c (.inr k)) 0 := rfl
omit [FloatOps F] in
theorem barrier_counter (c : Dev nD) : (unscopedSems0 c : sProp 𝕄) = semVal (barCell c) 0 := by
  unfold unscopedSems0
  rw [bigSep_eq_bigSepL_of_eq [barSem] (by decide) (by decide)]
  rfl

omit [FloatOps F] in
theorem counters (c : Dev nD) :
    iprop(ownCounters (F := F) c ∗ unscopedSems0 c) ⊣⊢ (bigSep Finset.univ fun k : Slot => closed (F := F) c k) := by
  have h : (bigSep Finset.univ fun k : Slot => closed (F := F) c k)
      = iprop(closed (F := F) c (.inl ()) ∗ bigSep Finset.univ fun k : Bool × Leg => closed (F := F) c (.inr k)) := by
    rw [bigSep_univ_sum, bigSep_univ_of_subsingleton ()]
    rfl
  rw [ownCounters_eq, barrier_counter, h]
  unfold closed
  exact ⟨by iintro ⟨H1, H2⟩; isplitl [H2] <;> iassumption, by iintro ⟨H1, H2⟩; isplitl [H2] <;> iassumption⟩

/-- A device's own cells, each with its record under some name. -/
def recorded (c : Dev nD) : sProp 𝕄 :=
  bigSep Finset.univ fun k : Slot => iprop(∃ κ : ℕ, cellInv ER (plan X) κ (cell c k))

omit [FloatOps F] in
theorem record_own (c : Dev nD) :
    iprop(ownCounters (F := F) c ∗ unscopedSems0 c ∗ given X c)
      ⊢ |={Set.univ}=> iprop(recorded X c ∗ (bigSep Finset.univ fun k : Slot => fresh (F := F) c k)
          ∗ (bigSep Finset.univ fun k : Slot => reached ER (cell c k) 0) ∗ tickets (F := F) c) := by
  have hi : iprop((bigSep Finset.univ fun k : Slot => closed (F := F) c k) ∗ bigSep Finset.univ fun k : Slot => roundState ER (plan X) (cell c k) 0)
      ⊢ (|={Set.univ}=> recorded X c : sProp 𝕄) := by
    rw [← bigSep_sep']
    exact (bigSep_mono fun k _ => (Rounds.body_intro ER (plan X) (cell c k)).trans inv_alloc).trans (bigSep_fupd _ _)
  unfold given
  iintro ⟨Ho, Hu, Hst, Hat, Hr, Htok⟩
  ihave Hv := (counters c).1 $$ [Ho Hu]
  · isplitl [Ho] <;> iassumption
  imod hi $$ [Hv Hst] with Hinv
  · isplitl [Hv] <;> iassumption
  imodintro
  isplitl [Hinv]; · iexact Hinv
  isplitl [Hat]; · iexact Hat
  isplitl [Hr]; · iexact Hr
  iexact Htok

/-- What a device has of the protocol when all cells are on record. -/
def dealt (c : Dev nD) : sProp 𝕄 :=
  iprop((∃ K, records X K) ∗ (bigSep Finset.univ fun k : Slot => fresh (F := F) c k) ∗ payments (F := F) c)

omit [FloatOps F] in
theorem regroup :
    (bigSep Finset.univ fun c : Dev nD => iprop(recorded X c ∗ (bigSep Finset.univ fun k : Slot => fresh (F := F) c k)
          ∗ (bigSep Finset.univ fun k : Slot => reached ER (cell c k) 0) ∗ tickets (F := F) c) : sProp 𝕄)
      ⊢ bigSep Finset.univ (dealt X) := by
  have hI : (bigSep Finset.univ fun c : Dev nD => recorded X c)
      = bigSep Finset.univ fun ck : Dev nD × Slot => iprop(∃ κ : ℕ, cellInv ER (plan X) κ (cell ck.1 ck.2)) :=
    (bigSep_univ_prod fun ck : Dev nD × Slot => iprop(∃ κ : ℕ, cellInv (Ix := Unit) (Val := Elt F) (Lvl := ℕ) ER (plan X) κ (cell ck.1 ck.2))).symm
  have hR : (bigSep Finset.univ fun c : Dev nD => bigSep Finset.univ fun k : Slot => (reached ER (cell c k) 0 : sProp 𝕄))
      = bigSep Finset.univ fun ck : Dev nD × Slot => reached ER (cell ck.1 ck.2) 0 :=
    (bigSep_univ_prod fun ck : Dev nD × Slot => (reached ER (cell ck.1 ck.2) 0 : sProp 𝕄)).symm
  have hd (K : Dev nD × Slot → ℕ) (c : Dev nD) :
      iprop(records X K ∗ (bigSep Finset.univ fun k : Slot => fresh (F := F) c k) ∗ payments (F := F) c) ⊢ dealt X c := by
    unfold dealt
    iintro ⟨HK, Hr⟩
    isplitl [HK]; · iexists K; iexact HK
    iexact Hr
  rw [bigSep_sep', bigSep_sep', bigSep_sep', hI, hR, deal]
  iintro ⟨HI, Hat, HR, Htok⟩
  ihave HK := (BI.bigSep_exists_pi Finset.univ fun (ck : Dev nD × Slot) (κ : ℕ) => (cellInv ER (plan X) κ (cell ck.1 ck.2) : sProp 𝕄)) $$ HI
  icases HK with ⟨%K, HI⟩
  iapply (bigSep_with_persistent (R := records X K) fun c _ => hd K c)
  isplitl [HI HR]
  · unfold records
    rw [bigSep_sep']
    isplitl [HI]; · iexact HI
    iexact HR
  rw [bigSep_sep']
  isplitl [Hat]; · iexact Hat
  iexact Htok

omit [FloatOps F] in
theorem record_all :
    (bigSep Finset.univ fun c => iprop(ownCounters (F := F) c ∗ unscopedSems0 c ∗ given X c) : sProp 𝕄)
      ⊢ |={Set.univ}=> bigSep Finset.univ (dealt X) :=
  ((bigSep_mono fun c _ => record_own X c).trans (bigSep_fupd _ _)).trans (BI.fupd_mono (regroup X))

/-! ## The credits -/

omit [FloatOps F] in
/-- When every device owes the next one the same of one cell, every device has that credit. -/
theorem credit_around (e : Dev nD ≃ Dev nD) (k : Slot) (n : ℕ) (c : Dev nD) :
    (Pipeline.launchCred (fun d => tallyAt (cell (e d) k) () n) c : sProp 𝕄) ⊢ cred (tallyAt (cell c k) () n) := by
  refine (Pipeline.launchCred_elim _ c (slotSem k)).trans (Entails.of_eq (congrArg cred ?_))
  unfold tallyAt
  refine congrArg _ (Finsupp.ext fun u => ?_)
  rw [Pipeline.launchCredit_owing, Finsupp.single_eq_same, Finset.sum_eq_single (e.symm c)]
  · rw [e.apply_symm_apply]; exact tallyAt_self _ _ _
  · intro d _ hd
    refine (tallyAt_apply _ _ _ _ _).trans (if_neg fun h => hd ?_)
    rw [(cell_inj h.1).1, e.symm_apply_apply]
  · intro h; exact absurd (Finset.mem_univ _) h

omit [FloatOps F] in
theorem credits (c : Dev nD) :
    (Pipeline.launchCred owedAll c : sProp 𝕄)
      ⊢ iprop(cred (tallyAt (barCell c) () 2) ∗ bigSep legSet fun l => cred (tallyAt (recvCell c l) () N)) := by
  have hbar : iprop(cred (tallyAt (barCell c) () 1) ∗ cred (tallyAt (barCell c) () 1)) ⊢ (cred (tallyAt (barCell c) () 2) : sProp 𝕄) :=
    (cred_add _ _).2.trans (Entails.of_eq (congrArg cred (tallyAt_add (barCell c) () 1 1)))
  have h₁ : (Pipeline.launchCred owedAll c : sProp 𝕄)
      = iprop(Pipeline.launchCred owedGreet c ∗ Pipeline.launchCred (fun d => tallyAt (barCell (next false d)) () 1) c) :=
    Pipeline.launchCred_add owedGreet _ c
  have h₂ : (Pipeline.launchCred owedGreet c : sProp 𝕄)
      = iprop(Pipeline.launchCred (fun d => owedFor d legSet) c ∗ Pipeline.launchCred (fun d => tallyAt (barCell (next true d)) () 1) c) :=
    Pipeline.launchCred_add _ _ c
  have h₃ : (Pipeline.launchCred (fun d => owedFor d legSet) c : sProp 𝕄)
      = bigSep legSet fun l => Pipeline.launchCred (fun d => tallyAt (recvCell (next l.1 d) l) () N) c :=
    Pipeline.launchCred_sum legSet (fun l d => tallyAt (recvCell (next l.1 d) l) () N) c
  have h₄ : (bigSep legSet fun l => (Pipeline.launchCred (fun d => tallyAt (recvCell (next l.1 d) l) () N) c : sProp 𝕄))
      ⊢ bigSep legSet fun l => cred (tallyAt (recvCell c l) () N) :=
    bigSep_mono fun l _ => credit_around (F := F) (around l.1) (.inr (true, l)) N c
  rw [h₁, h₂, h₃]
  iintro ⟨⟨Hl, Ht⟩, Hf⟩
  isplitl [Ht Hf]
  · iapply hbar
    isplitl [Ht]; · iapply (credit_around (around true) (.inl ()) 1 c); iexact Ht
    iapply (credit_around (around false) (.inl ()) 1 c); iexact Hf
  iapply h₄
  iexact Hl

omit [FloatOps F] in
/-- All that the body asks for of the protocol. -/
theorem ready_to_begin (c : Dev nD) :
    iprop((bigSep Finset.univ fun k : Slot => fresh (F := F) c k) ∗ payments (F := F) c ∗ Pipeline.launchCred owedAll c) ⊢ begins (F := F) c := by
  have ha : bigSep legSet (arriving (F := F) c) = iprop((bigSep legSet fun l => fresh (F := F) c (.inr (true, l)))
      ∗ bigSep legSet fun l => cred (tallyAt (recvCell c l) () N)) := bigSep_sep' _ _ _
  have hp : bigSep legSet (payable (F := F) c) = iprop((bigSep legSet fun l => dutyTok ER (sendCell c l) 0 false)
      ∗ (bigSep legSet fun l : Leg => dutyTok ER (recvCell (next l.1 c) l) 0 false) ∗ bigSep legSet fun l => fresh (F := F) c (.inr (false, l))) := by
    rw [← bigSep_sep', ← bigSep_sep']
    rfl
  unfold payments begins
  rw [ha, hp, over_slots, over_legs fun l => fresh (F := F) c (.inr (false, l)), over_legs fun l => fresh (F := F) c (.inr (true, l)),
    over_legs fun l => (dutyTok ER (sendCell c l) 0 false : sProp 𝕄),
    over_legs fun l : Leg => (dutyTok ER (recvCell (next l.1 c) l) 0 false : sProp 𝕄)]
  iintro ⟨⟨Fb, ⟨Fs, Us⟩, ⟨Fr, Ur⟩⟩, ⟨⟨Tf, Tt⟩, ⟨Ts, -⟩, ⟨Tr, -⟩⟩, Hc⟩
  ihave Hc := (credits (F := F) c) $$ Hc
  icases Hc with ⟨Cb, Cr⟩
  isplitl [Tt]; · iexact Tt
  isplitl [Tf]; · iexact Tf
  isplitl [Fb Cb]
  · unfold awaiting
    isplitl [Fb]; · iexact Fb
    iexact Cb
  isplitl [Fr Cr]
  · isplitl [Fr]; · iexact Fr
    iexact Cr
  isplitl [Ts Tr Fs]
  · isplitl [Ts]; · iexact Ts
    isplitl [Tr]; · iexact Tr
    iexact Fs
  isplitl [Us]; · iexact Us
  iexact Ur

end Cert.AllGather

end
-- ==== Proof.Ring.Launch.lean ====
/-
The run of the kernel on the mesh of sixteen devices, from any memory: it ends, and each device's result is the one
computed from the rows of all and its own columns.
-/
module

public import proofs.«01_k».proof.Proof.Ring.Deal
public import Idealize.ShloMosaic.Lib.Pipeline.CollectiveSegs

@[expose] public section

noncomputable section

namespace Cert.AllGather

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_full (c : Dev nD) (w : Fin cfg0.W) : (dats m 0 c).share w = fullShare := by unfold Dat.share; split <;> rfl

/-- What a device has of the protocol when the kernel begins. -/
def atStart (c : Dev nD) : sProp 𝕄 := iprop((∃ K, common (rowsOf m) K) ∗ begins (F := F) c)

theorem start_intro (c : Dev nD) :
    iprop(Pipeline.unscopedRestP Pipeline.Prefetch.none cfg0.spec c (fun b => m ((c : Thread nD τ).loc b)) ∗ levAts L level
        ∗ Pipeline.launchCred owedAll c ∗ prngReg c (ρ c) ∗ dealt (rowsOf m) c)
      ⊢ |={Set.univ}=> iprop(atStart m c ∗ emp) := by
  unfold dealt atStart common levels
  iintro ⟨-, Hlev, Hcr, -, ⟨%K, HK⟩, Hf, Hp⟩
  imodintro
  isplitl
  · isplitl [HK Hlev]
    · iexists K
      isplitl [HK]; · iexact HK
      iexact Hlev
    iapply (ready_to_begin (F := F) c)
    isplitl [Hf]; · iexact Hf
    isplitl [Hp]; · iexact Hp
    iexact Hcr
  iempintro

theorem enter (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = setOut m c from rfl, scratch_eq]
  unfold setOut atStart some'
  iintro ⟨⟨HK, Hb⟩, -, Hg, Hs⟩
  isplitl [HK]; · iexact HK
  isplitl [Hb]; · iexact Hb
  isplitl [Hg]; · iexact Hg
  iexact Hs

theorem leave (c : Dev nD) :
    (dats m 0 c).Φ (Fin.last cfg0.N) ⊢ iprop(unscopedSems0 c ∗ Pipeline.ownSems0 copySem c ∗ Pipeline.scopedRest cfg0.spec c) := by
  rw [show (dats m 0 c).Φ (Fin.last cfg0.N) = ends (F := F) c from rfl, scratch_eq]
  unfold ends some'
  iintro ⟨Hb, Hs, Hr, Hg, Ho⟩
  ihave Hc := (counters (F := F) c).2 $$ [Hb Hs Hr]
  · rw [over_slots]
    isplitl [Hb]; · iexact Hb
    isplitl [Hs]; · iexact Hs
    iexact Hr
  icases Hc with ⟨Hown, Hun⟩
  isplitl [Hun]; · iexact Hun
  isplitl [Hown]; · iexact Hown
  isplitl [Hg]; · iexact Hg
  iexact Ho

theorem slotOf_none {s : SemLoc sig} (h : ∀ k, slotSem k ≠ s) : slotOf s = none := by
  unfold slotOf
  rw [Finset.filter_false_of_mem fun k _ => h k, Finset.toList_empty]
  rfl

theorem window_sem (w : Fin 3) (s : Fin (spec0 w).nbuf) : ∀ k, slotSem k ≠ .dma ((spec0 w).sem s) := by
  revert w; decide +kernel

theorem waits (c : Dev nD) : (levAts L level : sProp 𝕄) ⊢ Pipeline.cellsWaits cfgs (dats m) () 0 c :=
  Pipeline.cellsWaits_intro cfgs (dats m) () 0 c fun w s t =>
    mayWait_window c _ (slotOf_none (window_sem w s)) _ (by
      rcases t with ⟨_ | _, ht⟩
      · exact Or.inl rfl
      · exact Or.inr rfl)

/-- What a window's array holds after the run. -/
def final (c : Dev nD) (w : Fin cfg0.W) : Buf (Elt F) ((cfg0.win w).arr.view.loc (c : Thread nD τ)) := (dats m 0 c).arrAt w cfg0.N

def Ended : PUnit × MemSt nD τ sig (Elt F) → Prop := fun r =>
  ∀ c : Dev nD, ∀ w : Fin cfg0.W, r.2.mem ((cfg0.win w).arr.view.loc (c : Thread nD τ)) = final m c w

set_option maxRecDepth 65536 in
/-- From any memory with zero counters, the run ends with every window's array at its final contents and every counter
    at zero. -/
theorem run_windows :
    θ_run defs (onTc (τ := τ) (main (F := F))) ⟨m, fun _ => 0, ρ⟩ (fun r => Ended m r ∧ r.2.sem = fun _ => 0) :=
  Pipeline.θ_run_region_owing_glob_pf (fun p => (cfgs p).toPCfg) (fun p => (cfgs p).toPCfg_adm) (dats m) () staging_inj (0 : Fin 1)
    winFacts.to₀ copySems (Pipeline.PreFacts.none _) EP defs₀ 𝒱₀ m ρ main
    (hmain := fun _ => rfl)
    (hbody := body_obligation m) (hne := block_pos) (harr := arr_whole) (hstage := stage_whole) (hshare := share_full m)
    (hdistinct := winFacts.arr_inj)
    (O₀ := owedAll) (howed₀ := fun _ => rfl) (howedN := fun _ => rfl)
    (L := L) (lv := level) (hL := L_of_ne) (hwaits := waits m)
    (G := given (rowsOf m)) (G' := dealt (rowsOf m)) (u₀ := launched)
    (hu₀ := by
      unfold launched
      iintro Hu
      ihave H := (ownU_pair _ _) $$ Hu
      icases H with ⟨HP, HX⟩
      imod (fund_all (rowsOf m)) $$ HX with HG
      imodintro
      isplitl [HP] <;> iassumption)
    (hglob := record_all (rowsOf m))
    (hA := fun _ _ => rfl) (hpf := fun _ k => k.elim0)
    (X := atStart m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows and the columns are unchanged, -/
theorem final_x (c : Dev nD) : final m c (0 : Fin 3) = m (win0_0.arr.view.loc (c : Thread nD τ)) :=
  (dats (F := F) m 0 c).arrAt_in (0 : Fin 3) rfl _
theorem final_w (c : Dev nD) : final m c (1 : Fin 3) = m (win0_1.arr.view.loc (c : Thread nD τ)) :=
  (dats (F := F) m 0 c).arrAt_in (1 : Fin 3) rfl _
/-- and the result is what the body leaves. -/
theorem final_out (c : Dev nD) : final m c (2 : Fin 3) = outAt (rowsOf m) (colsOf m) c := by
  funext i
  have hemb : ((cfg0.win (2 : Fin 3)).blk point).view.emb i = i := by
    funext a
    exact Fin.ext ((cfg0.win (2 : Fin 3)).rect_emb_val_of_index_zero point a (by revert a; decide +kernel) i)
  have h := (dats m 0 c).arrAt_emb_eq_flushed (2 : Fin 3)
    (fun t t' _ _ hne => absurd ((eq_point t).trans (eq_point t').symm) hne) point (flush_out point) i
  rw [hemb] at h
  exact h

/-- The run, argument by argument. -/
theorem run_main :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outAt (rowsOf m) (colsOf m) c)
      ∧ r.2.sem = fun _ => 0) :=
  (θ_run defs _ _).mono (fun r h =>
    ⟨fun c => ⟨(h.1 c (0 : Fin 3)).trans (final_x m c), (h.1 c (1 : Fin 3)).trans (final_w m c), (h.1 c (2 : Fin 3)).trans (final_out m c)⟩, h.2⟩)
    (run_windows m ρ)

end Cert.AllGather

end
-- ==== Proof.Ring.Value.lean ====
/-
The values of the two sides over the extended reals: an element of the product of the whole arrays, and silu of it.
-/
module

public import proofs.«01_k».proof.Proof.Ring.Launch
public import Idealize.ShloMosaic.Lib.MatmulPlain
public import Idealize.ShloMosaic.Lib.StackMember
public import Idealize.ShloMosaic.Lib.Layout

@[expose] public section

noncomputable section

namespace Cert.AllGather

open Cert.KernelIdeal Cert.KernelIdeal.Facts₀
open Idealize.ShloMosaic Idealize.ShloMosaic.TcCoe
open Idealize.ShloMosaic.ValueIdx

/-! ## The product and its silu -/

/-- An element of a product of two matrices. -/
def prod {M K N : ℕ} (x : (⟨2, ![M, K]⟩ : Shape).Idx → EReal) (w : (⟨2, ![K, N]⟩ : Shape).Idx → EReal)
    (i : (⟨2, ![M, N]⟩ : Shape).Idx) : EReal := ∑ k : Fin K, x (ix2 (i 0) k) * w (ix2 k (i 1))

/-- silu, as a quotient. -/
def silu (y : EReal) : EReal := Ideal.div y (1 + Ideal.exp (-y))

theorem exp_nonneg (y : EReal) : 0 ≤ Ideal.exp y := by
  induction y with
  | bot => exact le_refl _
  | top => exact le_top
  | coe r => rw [Ideal.exp_coe]; exact EReal.coe_nonneg.mpr (Real.exp_pos r).le

/-- The denominator is never zero. -/
theorem one_add_exp_ne (y : EReal) : 1 + Ideal.exp y ≠ 0 :=
  ne_of_gt (lt_of_lt_of_le zero_lt_one (le_add_of_nonneg_right (exp_nonneg y)))

/-- So the product with the logistic is the quotient. -/
theorem mul_logistic (y : EReal) : y * Ideal.logistic y = silu y := by
  unfold Ideal.logistic silu Ideal.div
  rw [if_neg (one_add_exp_ne _), if_neg (one_add_exp_ne _), one_mul]

theorem act_apply (a : Vec Ideal S256x4096 .bf16) (b : Vec Ideal S4096x128 .bf16) (j : S256x128.Idx) :
    act a b j = silu (prod a b j) := by
  have h : FloatOps.matmul (F := Ideal) (φ₁ := .bf16) (φ₂ := .bf16) dot_S256x4096_S4096x128_S256x128_1_0_0_1_n_n none a b (constant S256x128 .f32 0x00000000#32) j
      = prod a b j := by
    rw [eq_ix2 j]
    refine (Ideal.matmul_plain_apply (M := 256) (K := 4096) (N := 128) none a b (constant S256x128 .f32 0x00000000#32) (j 0) (j 1)).trans ?_
    show Ideal.ofBits .f32 0x00000000#32 + _ = _
    rw [Ideal.ofBits_zero_f32, zero_add]
    rfl
  rw [← mul_logistic, ← h]
  rfl

/-! ## The blocks -/

variable (x : (⟨2, ![4096, 4096]⟩ : Shape).Idx → EReal) (w : (⟨2, ![4096, 2048]⟩ : Shape).Idx → EReal)

theorem rows_tile : Layout.Tiles ⟨2, ![256, 4096]⟩ ⟨2, ![4096, 4096]⟩ 0 16 := by decide
theorem cols_tile : Layout.Tiles ⟨2, ![4096, 128]⟩ ⟨2, ![4096, 2048]⟩ 1 16 := by decide

/-- The result of device `c` is its block of silu of the product. -/
theorem out_block (X : Dev nD → Vec Ideal S256x4096 .bf16) (W : Dev nD → Vec Ideal S4096x128 .bf16)
    (hX : ∀ c, X c = Layout.block ⟨2, ![256, 4096]⟩ ⟨2, ![4096, 4096]⟩ 0 16 c x)
    (hW : ∀ c, W c = Layout.block ⟨2, ![4096, 128]⟩ ⟨2, ![4096, 2048]⟩ 1 16 c w) (c : Dev nD) :
    outAt X W c = Layout.block ⟨2, ![4096, 128]⟩ ⟨2, ![4096, 2048]⟩ 1 16 c (fun i => silu (prod x w i)) := by
  funext i
  refine (act_apply _ _ _).trans (congrArg silu ?_)
  rw [hX, hW]
  refine Finset.sum_congr rfl fun k _ => congrArg₂ (· * ·) (congrArg x ?_) (congrArg w ?_)
  · refine Shape.idx_ext₂ ?_ ?_
    · show (ownerOf i).val * 256 + (i 0).val % 256 = (i 0).val
      rw [ownerOf_val]; omega
    · rfl
  · refine Shape.idx_ext₂ rfl rfl

/-! ## A device's arguments -/

section Args
variable {F : FTy → Type} [FloatOps F] (m : (ℓ : Loc nD τ sig) → Buf (Elt F) ℓ)

theorem rowsOf_eq (c : Dev nD) : rowsOf m c = m ((c : Thread nD τ).loc main_arg0) := by
  funext i
  refine congrArg (m ((c : Thread nD τ).loc main_arg0)) ?_
  funext a
  exact Fin.ext ((cfg0.win (0 : Fin 3)).rect_emb_val_of_index_zero point a (by revert a; decide +kernel) i)

theorem colsOf_eq (c : Dev nD) : colsOf m c = m ((c : Thread nD τ).loc main_arg1) := by
  funext i
  refine congrArg (m ((c : Thread nD τ).loc main_arg1)) ?_
  funext a
  exact Fin.ext ((cfg0.win (1 : Fin 3)).rect_emb_val_of_index_zero point a (by revert a; decide +kernel) i)

end Args

end Cert.AllGather

end
-- ==== Proof.Ring.Reference.lean ====
/-
What the two references compute, and the elements at which the clip does nothing.
-/
module

public import proofs.«01_k».proof.Defs
public import proofs.«01_k».proof.Proof.Gen.ReferenceIdeal.Run
public import proofs.«01_k».proof.Proof.Gen.SiluIdeal.Run
public import proofs.«01_k».proof.Proof.Ring.Value

@[expose] public section

noncomputable section

namespace Cert.AllGather

open Idealize.ShloMosaic Idealize.ShloMosaic.TcCoe Idealize.SL.Sem
open Idealize.ShloMosaic.ValueIdx

abbrev WholeX := (⟨2, ![4096, 4096]⟩ : Shape).Idx → EReal
abbrev WholeW := (⟨2, ![4096, 2048]⟩ : Shape).Idx → EReal

variable (x : WholeX) (w : WholeW)

/-- The number 60 and its negative, as the programs write them. -/
theorem sixty : Ideal.ofBits .f32 0x42700000#32 = ((60 : ℝ) : EReal) := by
  simp [Ideal.ofBits, Ideal.ieee, -EReal.coe_mul]; norm_num
theorem minus_sixty : Ideal.ofBits .f32 0xC2700000#32 = ((-60 : ℝ) : EReal) := by
  simp [Ideal.ofBits, Ideal.ieee, -EReal.coe_mul]; norm_num
theorem one : Ideal.ofBits .f32 0x3F800000#32 = 1 := by
  simp [Ideal.ofBits, Ideal.ieee, -EReal.coe_mul]; norm_num

/-- The clip. -/
def clip (y : EReal) : EReal := min ((60 : ℝ) : EReal) (max ((-60 : ℝ) : EReal) y)
theorem clip_eq {y : EReal} (h : ((-60 : ℝ) : EReal) ≤ y ∧ y ≤ ((60 : ℝ) : EReal)) : clip y = y := by
  unfold clip; rw [max_eq_right h.1, min_eq_right h.2]

/-- silu with its exponent clipped. -/
def clippedSilu (y : EReal) : EReal := Ideal.div y (1 + Ideal.exp (-clip y))

/-- An element of the host's product. -/
theorem host_prod (i : (⟨2, ![4096, 2048]⟩ : Shape).Idx) :
    Host.dotGeneral (F := Ideal) (φ₁ := .bf16) (φ₂ := .bf16) (DotDims.plain 4096 4096 2048) none x w i = prod x w i := by
  rw [eq_ix2 i]
  exact StackMember.dotGeneral_plain_apply none x w (i 0) (i 1)

theorem reference_runs (m : (ℓ : Loc ReferenceIdeal.nD ReferenceIdeal.τ ReferenceIdeal.sig) → Buf (Elt Ideal) ℓ)
    (ρ : Dev ReferenceIdeal.nD → PrngReg) :
    θ_run ReferenceIdeal.defs (onTc (τ := ReferenceIdeal.τ) (ReferenceIdeal.main (F := Ideal))) ⟨m, fun _ => 0, ρ⟩ fun r =>
      ∀ c : Dev ReferenceIdeal.nD,
        (r.2.mem ((c.tc : Thread ReferenceIdeal.nD ReferenceIdeal.τ).loc ReferenceIdeal.main_v8)
          = fun i => clippedSilu (prod (m ((c.tc : Thread ReferenceIdeal.nD ReferenceIdeal.τ).loc ReferenceIdeal.main_arg0))
              (m ((c.tc : Thread ReferenceIdeal.nD ReferenceIdeal.τ).loc ReferenceIdeal.main_arg1)) i))
        ∧ r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1) :=
  (θ_run ReferenceIdeal.defs _ _).mono (fun _ h c => ⟨(h c).1.trans (by
    funext i
    rw [← host_prod]
    unfold clippedSilu clip
    rw [← one, ← sixty, ← minus_sixty]
    rfl), (h c).2⟩) (ReferenceIdeal.Value.run m ρ)

theorem silu_runs (m : (ℓ : Loc SiluIdeal.nD SiluIdeal.τ SiluIdeal.sig) → Buf (Elt Ideal) ℓ)
    (ρ : Dev SiluIdeal.nD → PrngReg) :
    θ_run SiluIdeal.defs (onTc (τ := SiluIdeal.τ) (SiluIdeal.main (F := Ideal))) ⟨m, fun _ => 0, ρ⟩ fun r =>
      ∀ c : Dev SiluIdeal.nD,
        (r.2.mem ((c.tc : Thread SiluIdeal.nD SiluIdeal.τ).loc SiluIdeal.main_v7)
          = fun i => silu (prod (m ((c.tc : Thread SiluIdeal.nD SiluIdeal.τ).loc SiluIdeal.main_arg0))
              (m ((c.tc : Thread SiluIdeal.nD SiluIdeal.τ).loc SiluIdeal.main_arg1)) i))
        ∧ r.2.mem ((c.tc : Thread SiluIdeal.nD SiluIdeal.τ).loc SiluIdeal.main_arg0)
            = m ((c.tc : Thread SiluIdeal.nD SiluIdeal.τ).loc SiluIdeal.main_arg0)
        ∧ r.2.mem ((c.tc : Thread SiluIdeal.nD SiluIdeal.τ).loc SiluIdeal.main_arg1)
            = m ((c.tc : Thread SiluIdeal.nD SiluIdeal.τ).loc SiluIdeal.main_arg1) :=
  (θ_run SiluIdeal.defs _ _).mono (fun _ h c => ⟨(h c).1.trans (by
    funext i
    rw [← host_prod]
    unfold silu
    rw [← one]
    rfl), (h c).2⟩) (SiluIdeal.Value.run m ρ)

/-- The references have no semaphores. -/
theorem reference_no_sem (s : SemLoc ReferenceIdeal.sig) : False := by rcases s with s | s <;> exact s.elim0
theorem silu_no_sem (s : SemLoc SiluIdeal.sig) : False := by rcases s with s | s <;> exact s.elim0

instance maskFacts : On_unclipped.Facts where
  bcast_S_S4096x2048 := by decide
  dot_S4096x4096_S4096x2048_S4096x2048_1_0_0_1_n_n_wf := by decide

theorem both_bits : ∀ a b : Bool, BitVec.ofBool a &&& BitVec.ofBool b = 1#1 → a = true ∧ b = true := by decide

/-- An element that the claim speaks of is between the clip's two ends. -/
theorem unclipped_between (i : (⟨2, ![4096, 2048]⟩ : Shape).Idx) (h : On_unclipped.fn (F := Ideal) x w i = 1#1) :
    ((-60 : ℝ) : EReal) ≤ prod x w i ∧ prod x w i ≤ ((60 : ℝ) : EReal) := by
  have e : On_unclipped.fn (F := Ideal) x w i
      = Ideal.cmp .oge (prod x w i) ((-60 : ℝ) : EReal) &&& Ideal.cmp .ole (prod x w i) ((60 : ℝ) : EReal) := by
    rw [← host_prod, ← sixty, ← minus_sixty]; rfl
  rw [e] at h
  obtain ⟨h1, h2⟩ := both_bits (decide _) (decide _) h
  exact ⟨of_decide_eq_true h1, of_decide_eq_true h2⟩

/-- There the two references agree. -/
theorem clippedSilu_eq (i : (⟨2, ![4096, 2048]⟩ : Shape).Idx) (h : On_unclipped.fn (F := Ideal) x w i = 1#1) :
    clippedSilu (prod x w i) = silu (prod x w i) := by
  unfold clippedSilu silu; rw [clip_eq (unclipped_between x w i h)]

end Cert.AllGather

end
-- ==== Proof.lean ====
/-
The proof of `Cert.Claim` (proofs.«01_k».proof.Defs), assembled from the modules under Proof/Ring/: the run of the kernel
on the ring (Ring/Launch.lean), the values of the two sides (Ring/Value.lean) and the references (Ring/Reference.lean).
-/
module

public import proofs.«01_k».proof.Defs
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Ring.Reference

@[expose] public section

noncomputable section

namespace Cert.Proof

open Idealize.ShloMosaic Idealize.ShloMosaic.TcCoe Idealize.SL.Sem
open Cert.AllGather

/-! ## The frames -/

/-- The kernel runs to the end, its arguments unchanged and its counters at zero, whatever a float is. -/
theorem kernel_quiet {F : FTy → Type} [FloatOps F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  (θ_run KernelIdeal.defs _ _).mono (fun _ h => ⟨fun c => ⟨(h.1 c).1, (h.1 c).2.1⟩, h.2⟩) (run_main m ρ)

/-- The kernel and its reading over the extended reals are the same text: at their only label the two tables have the same body. -/
theorem same_bodies : Cert.Kernel.defs₀ (F := Bits) = Cert.KernelIdeal.defs₀ (F := Bits) := by
  refine congrArg (Defs.onTc (nD := Cert.KernelIdeal.nD) (τ := Cert.KernelIdeal.τ) (sig := Cert.KernelIdeal.sig) (Λ := Cert.KernelIdeal.Λ₀)) ?_
  funext l
  match l with
  | 0 => rfl

theorem same_defs : Cert.Kernel.defs (F := Bits) = Cert.KernelIdeal.defs (F := Bits) :=
  congrArg (Pipeline.defs (Cert.KernelIdeal.pcfgs (F := Bits))) same_bodies

/-- So one run serves both. -/
theorem frame_kernel : Cert.quiescent_Kernel (hKernel := bitsFacts) := fun m ρ _ => by
  rw [same_defs]; exact kernel_quiet (F := Bits) m ρ

theorem frame_kernelIdeal : Cert.quiescent_KernelIdeal (hKernelIdeal := idealFacts) := fun m ρ _ =>
  kernel_quiet (F := Ideal) m ρ

theorem frame_reference : Cert.quiescent_ReferenceIdeal := fun m ρ _ =>
  (θ_run Cert.ReferenceIdeal.defs _ _).mono
    (fun _ h => ⟨fun c => (h c).2, funext fun g => (reference_no_sem g.2).elim⟩) (reference_runs m ρ)

theorem frame_silu : Cert.quiescent_SiluIdeal := fun m ρ _ =>
  (θ_run Cert.SiluIdeal.defs _ _).mono
    (fun _ h => ⟨fun c => (h c).2, funext fun g => (silu_no_sem g.2).elim⟩) (silu_runs m ρ)

/-! ## The values -/

/-- Every result of the kernel is its block of silu of the product. -/
theorem kernel_value (m : (ℓ : Loc KernelIdeal.nD KernelIdeal.τ KernelIdeal.sig) → Buf (Elt Ideal) ℓ)
    (ρ : Dev KernelIdeal.nD → PrngReg) (x : WholeX) (w : WholeW)
    (h : ∀ c : Dev KernelIdeal.nD,
      m ((c.tc : Thread KernelIdeal.nD KernelIdeal.τ).loc KernelIdeal.main_arg0) = Layout.block ⟨2, ![256, 4096]⟩ ⟨2, ![4096, 4096]⟩ 0 16 c x
      ∧ m ((c.tc : Thread KernelIdeal.nD KernelIdeal.τ).loc KernelIdeal.main_arg1) = Layout.block ⟨2, ![4096, 128]⟩ ⟨2, ![4096, 2048]⟩ 1 16 c w) :
    θ_run KernelIdeal.defs (onTc (τ := KernelIdeal.τ) (KernelIdeal.main (F := Ideal))) ⟨m, fun _ => 0, ρ⟩ fun r =>
      ∀ c : Dev KernelIdeal.nD,
        r.2.mem ((c.tc : Thread KernelIdeal.nD KernelIdeal.τ).loc KernelIdeal.main_v1)
          = Layout.block ⟨2, ![4096, 128]⟩ ⟨2, ![4096, 2048]⟩ 1 16 c (fun i => silu (prod x w i))
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1) :=
  (θ_run KernelIdeal.defs _ _).mono (fun _ hr c =>
    ⟨(hr.1 c).2.2.trans (out_block x w _ _ (fun c => (rowsOf_eq m c).trans (h c).1) (fun c => (colsOf_eq m c).trans (h c).2) c),
      (hr.1 c).1, (hr.1 c).2.1⟩) (run_main (F := Ideal) m ρ)

theorem algebraic_silu : Cert.algebraic_KernelIdeal_SiluIdeal (hKernelIdeal := idealFacts) := fun m ρ m' ρ' _ h =>
  ⟨_, kernel_value m ρ _ _ h, (θ_run Cert.SiluIdeal.defs _ _).mono (fun _ hr => hr 0) (silu_runs m' ρ')⟩

/-- Where the clip does nothing, the result is the reference's, clip included. -/
theorem algebraic_reference :
    Cert.algebraic_KernelIdeal_ReferenceIdeal_on_unclipped (hKernelIdeal := idealFacts) := fun m ρ m' ρ' _ h =>
  ⟨_, (θ_run Cert.KernelIdeal.defs _ _).mono (fun _ hr c => ⟨fun i hi => by
      rw [(hr c).1]; exact (clippedSilu_eq _ _ _ hi).symm, (hr c).2⟩) (kernel_value m ρ _ _ h),
    (θ_run Cert.ReferenceIdeal.defs _ _).mono (fun _ hr => ⟨fun i _ => congrFun (hr 0).1 i, (hr 0).2⟩) (reference_runs m' ρ')⟩

theorem claim : Cert.Claim :=
  ⟨bitsFacts, idealFacts, Cert.ReferenceIdeal.Gen.facts, Cert.SiluIdeal.Gen.facts, maskFacts,
    frame_kernel, frame_kernelIdeal, frame_reference, frame_silu, trivial, algebraic_reference, algebraic_silu⟩

end Cert.Proof

end
